-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_ProjAttn (m : (ℓ : Loc Cert.ProjAttn.nD Cert.ProjAttn.τ Cert.ProjAttn.sig) → Buf (Elt Bits) ℓ) : Prop :=
  True

def Pre_ProjAttnIdeal (m : (ℓ : Loc Cert.ProjAttnIdeal.nD Cert.ProjAttnIdeal.τ Cert.ProjAttnIdeal.sig) → Buf (Elt Ideal) ℓ) : Prop :=
  True

def Pre_ProjAttnRefIdeal (m : (ℓ : Loc Cert.ProjAttnRefIdeal.nD Cert.ProjAttnRefIdeal.τ Cert.ProjAttnRefIdeal.sig) → Buf (Elt Ideal) ℓ) : Prop :=
  True

def Pre_ProjSsm (m : (ℓ : Loc Cert.ProjSsm.nD Cert.ProjSsm.τ Cert.ProjSsm.sig) → Buf (Elt Bits) ℓ) : Prop :=
  True

def Pre_ProjSsmIdeal (m : (ℓ : Loc Cert.ProjSsmIdeal.nD Cert.ProjSsmIdeal.τ Cert.ProjSsmIdeal.sig) → Buf (Elt Ideal) ℓ) : Prop :=
  True

def Pre_ProjSsmRefIdeal (m : (ℓ : Loc Cert.ProjSsmRefIdeal.nD Cert.ProjSsmRefIdeal.τ Cert.ProjSsmRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_ProjAttn [hProjAttn : Cert.ProjAttn.Facts] : Prop :=
  ∀ (m : (ℓ : Loc Cert.ProjAttn.nD Cert.ProjAttn.τ Cert.ProjAttn.sig) → Buf (Elt Bits) ℓ) (g : Dev Cert.ProjAttn.nD → PrngReg), Pre_ProjAttn m →
    θ_run (Cert.ProjAttn.defs (F := Bits)) (onTc (τ := Cert.ProjAttn.τ) (Cert.ProjAttn.main (F := Bits))) ⟨m, fun _ => 0, g⟩ (fun r => (∀ c : Dev Cert.ProjAttn.nD,
      r.2.mem ((c.tc : Thread Cert.ProjAttn.nD Cert.ProjAttn.τ).loc Cert.ProjAttn.main_arg0) = m ((c.tc : Thread Cert.ProjAttn.nD Cert.ProjAttn.τ).loc Cert.ProjAttn.main_arg0)
      ∧ r.2.mem ((c.tc : Thread Cert.ProjAttn.nD Cert.ProjAttn.τ).loc Cert.ProjAttn.main_arg1) = m ((c.tc : Thread Cert.ProjAttn.nD Cert.ProjAttn.τ).loc Cert.ProjAttn.main_arg1)
      ∧ r.2.mem ((c.tc : Thread Cert.ProjAttn.nD Cert.ProjAttn.τ).loc Cert.ProjAttn.main_arg2) = m ((c.tc : Thread Cert.ProjAttn.nD Cert.ProjAttn.τ).loc Cert.ProjAttn.main_arg2)
      ∧ r.2.mem ((c.tc : Thread Cert.ProjAttn.nD Cert.ProjAttn.τ).loc Cert.ProjAttn.main_arg3) = m ((c.tc : Thread Cert.ProjAttn.nD Cert.ProjAttn.τ).loc Cert.ProjAttn.main_arg3))
      ∧ r.2.sem = fun _ => 0)

def quiescent_ProjAttnIdeal [hProjAttnIdeal : Cert.ProjAttnIdeal.Facts] : Prop :=
  ∀ (m : (ℓ : Loc Cert.ProjAttnIdeal.nD Cert.ProjAttnIdeal.τ Cert.ProjAttnIdeal.sig) → Buf (Elt Ideal) ℓ) (g : Dev Cert.ProjAttnIdeal.nD → PrngReg), Pre_ProjAttnIdeal m →
    θ_run (Cert.ProjAttnIdeal.defs (F := Ideal)) (onTc (τ := Cert.ProjAttnIdeal.τ) (Cert.ProjAttnIdeal.main (F := Ideal))) ⟨m, fun _ => 0, g⟩ (fun r => (∀ c : Dev Cert.ProjAttnIdeal.nD,
      r.2.mem ((c.tc : Thread Cert.ProjAttnIdeal.nD Cert.ProjAttnIdeal.τ).loc Cert.ProjAttnIdeal.main_arg0) = m ((c.tc : Thread Cert.ProjAttnIdeal.nD Cert.ProjAttnIdeal.τ).loc Cert.ProjAttnIdeal.main_arg0)
      ∧ r.2.mem ((c.tc : Thread Cert.ProjAttnIdeal.nD Cert.ProjAttnIdeal.τ).loc Cert.ProjAttnIdeal.main_arg1) = m ((c.tc : Thread Cert.ProjAttnIdeal.nD Cert.ProjAttnIdeal.τ).loc Cert.ProjAttnIdeal.main_arg1)
      ∧ r.2.mem ((c.tc : Thread Cert.ProjAttnIdeal.nD Cert.ProjAttnIdeal.τ).loc Cert.ProjAttnIdeal.main_arg2) = m ((c.tc : Thread Cert.ProjAttnIdeal.nD Cert.ProjAttnIdeal.τ).loc Cert.ProjAttnIdeal.main_arg2)
      ∧ r.2.mem ((c.tc : Thread Cert.ProjAttnIdeal.nD Cert.ProjAttnIdeal.τ).loc Cert.ProjAttnIdeal.main_arg3) = m ((c.tc : Thread Cert.ProjAttnIdeal.nD Cert.ProjAttnIdeal.τ).loc Cert.ProjAttnIdeal.main_arg3))
      ∧ r.2.sem = fun _ => 0)

def quiescent_ProjAttnRefIdeal [hProjAttnRefIdeal : Cert.ProjAttnRefIdeal.Facts] : Prop :=
  ∀ (m : (ℓ : Loc Cert.ProjAttnRefIdeal.nD Cert.ProjAttnRefIdeal.τ Cert.ProjAttnRefIdeal.sig) → Buf (Elt Ideal) ℓ) (g : Dev Cert.ProjAttnRefIdeal.nD → PrngReg), Pre_ProjAttnRefIdeal m →
    θ_run (Cert.ProjAttnRefIdeal.defs (F := Ideal)) (onTc (τ := Cert.ProjAttnRefIdeal.τ) (Cert.ProjAttnRefIdeal.main (F := Ideal))) ⟨m, fun _ => 0, g⟩ (fun r => (∀ c : Dev Cert.ProjAttnRefIdeal.nD,
      r.2.mem ((c.tc : Thread Cert.ProjAttnRefIdeal.nD Cert.ProjAttnRefIdeal.τ).loc Cert.ProjAttnRefIdeal.main_arg0) = m ((c.tc : Thread Cert.ProjAttnRefIdeal.nD Cert.ProjAttnRefIdeal.τ).loc Cert.ProjAttnRefIdeal.main_arg0)
      ∧ r.2.mem ((c.tc : Thread Cert.ProjAttnRefIdeal.nD Cert.ProjAttnRefIdeal.τ).loc Cert.ProjAttnRefIdeal.main_arg1) = m ((c.tc : Thread Cert.ProjAttnRefIdeal.nD Cert.ProjAttnRefIdeal.τ).loc Cert.ProjAttnRefIdeal.main_arg1)
      ∧ r.2.mem ((c.tc : Thread Cert.ProjAttnRefIdeal.nD Cert.ProjAttnRefIdeal.τ).loc Cert.ProjAttnRefIdeal.main_arg2) = m ((c.tc : Thread Cert.ProjAttnRefIdeal.nD Cert.ProjAttnRefIdeal.τ).loc Cert.ProjAttnRefIdeal.main_arg2)
      ∧ r.2.mem ((c.tc : Thread Cert.ProjAttnRefIdeal.nD Cert.ProjAttnRefIdeal.τ).loc Cert.ProjAttnRefIdeal.main_arg3) = m ((c.tc : Thread Cert.ProjAttnRefIdeal.nD Cert.ProjAttnRefIdeal.τ).loc Cert.ProjAttnRefIdeal.main_arg3))
      ∧ r.2.sem = fun _ => 0)

def quiescent_ProjSsm [hProjSsm : Cert.ProjSsm.Facts] : Prop :=
  ∀ (m : (ℓ : Loc Cert.ProjSsm.nD Cert.ProjSsm.τ Cert.ProjSsm.sig) → Buf (Elt Bits) ℓ) (g : Dev Cert.ProjSsm.nD → PrngReg), Pre_ProjSsm m →
    θ_run (Cert.ProjSsm.defs (F := Bits)) (onTc (τ := Cert.ProjSsm.τ) (Cert.ProjSsm.main (F := Bits))) ⟨m, fun _ => 0, g⟩ (fun r => (∀ c : Dev Cert.ProjSsm.nD,
      r.2.mem ((c.tc : Thread Cert.ProjSsm.nD Cert.ProjSsm.τ).loc Cert.ProjSsm.main_arg0) = m ((c.tc : Thread Cert.ProjSsm.nD Cert.ProjSsm.τ).loc Cert.ProjSsm.main_arg0)
      ∧ r.2.mem ((c.tc : Thread Cert.ProjSsm.nD Cert.ProjSsm.τ).loc Cert.ProjSsm.main_arg1) = m ((c.tc : Thread Cert.ProjSsm.nD Cert.ProjSsm.τ).loc Cert.ProjSsm.main_arg1)
      ∧ r.2.mem ((c.tc : Thread Cert.ProjSsm.nD Cert.ProjSsm.τ).loc Cert.ProjSsm.main_arg2) = m ((c.tc : Thread Cert.ProjSsm.nD Cert.ProjSsm.τ).loc Cert.ProjSsm.main_arg2)
      ∧ r.2.mem ((c.tc : Thread Cert.ProjSsm.nD Cert.ProjSsm.τ).loc Cert.ProjSsm.main_arg3) = m ((c.tc : Thread Cert.ProjSsm.nD Cert.ProjSsm.τ).loc Cert.ProjSsm.main_arg3)
      ∧ r.2.mem ((c.tc : Thread Cert.ProjSsm.nD Cert.ProjSsm.τ).loc Cert.ProjSsm.main_arg4) = m ((c.tc : Thread Cert.ProjSsm.nD Cert.ProjSsm.τ).loc Cert.ProjSsm.main_arg4))
      ∧ r.2.sem = fun _ => 0)

def quiescent_ProjSsmIdeal [hProjSsmIdeal : Cert.ProjSsmIdeal.Facts] : Prop :=
  ∀ (m : (ℓ : Loc Cert.ProjSsmIdeal.nD Cert.ProjSsmIdeal.τ Cert.ProjSsmIdeal.sig) → Buf (Elt Ideal) ℓ) (g : Dev Cert.ProjSsmIdeal.nD → PrngReg), Pre_ProjSsmIdeal m →
    θ_run (Cert.ProjSsmIdeal.defs (F := Ideal)) (onTc (τ := Cert.ProjSsmIdeal.τ) (Cert.ProjSsmIdeal.main (F := Ideal))) ⟨m, fun _ => 0, g⟩ (fun r => (∀ c : Dev Cert.ProjSsmIdeal.nD,
      r.2.mem ((c.tc : Thread Cert.ProjSsmIdeal.nD Cert.ProjSsmIdeal.τ).loc Cert.ProjSsmIdeal.main_arg0) = m ((c.tc : Thread Cert.ProjSsmIdeal.nD Cert.ProjSsmIdeal.τ).loc Cert.ProjSsmIdeal.main_arg0)
      ∧ r.2.mem ((c.tc : Thread Cert.ProjSsmIdeal.nD Cert.ProjSsmIdeal.τ).loc Cert.ProjSsmIdeal.main_arg1) = m ((c.tc : Thread Cert.ProjSsmIdeal.nD Cert.ProjSsmIdeal.τ).loc Cert.ProjSsmIdeal.main_arg1)
      ∧ r.2.mem ((c.tc : Thread Cert.ProjSsmIdeal.nD Cert.ProjSsmIdeal.τ).loc Cert.ProjSsmIdeal.main_arg2) = m ((c.tc : Thread Cert.ProjSsmIdeal.nD Cert.ProjSsmIdeal.τ).loc Cert.ProjSsmIdeal.main_arg2)
      ∧ r.2.mem ((c.tc : Thread Cert.ProjSsmIdeal.nD Cert.ProjSsmIdeal.τ).loc Cert.ProjSsmIdeal.main_arg3) = m ((c.tc : Thread Cert.ProjSsmIdeal.nD Cert.ProjSsmIdeal.τ).loc Cert.ProjSsmIdeal.main_arg3)
      ∧ r.2.mem ((c.tc : Thread Cert.ProjSsmIdeal.nD Cert.ProjSsmIdeal.τ).loc Cert.ProjSsmIdeal.main_arg4) = m ((c.tc : Thread Cert.ProjSsmIdeal.nD Cert.ProjSsmIdeal.τ).loc Cert.ProjSsmIdeal.main_arg4))
      ∧ r.2.sem = fun _ => 0)

def quiescent_ProjSsmRefIdeal [hProjSsmRefIdeal : Cert.ProjSsmRefIdeal.Facts] : Prop :=
  ∀ (m : (ℓ : Loc Cert.ProjSsmRefIdeal.nD Cert.ProjSsmRefIdeal.τ Cert.ProjSsmRefIdeal.sig) → Buf (Elt Ideal) ℓ) (g : Dev Cert.ProjSsmRefIdeal.nD → PrngReg), Pre_ProjSsmRefIdeal m →
    θ_run (Cert.ProjSsmRefIdeal.defs (F := Ideal)) (onTc (τ := Cert.ProjSsmRefIdeal.τ) (Cert.ProjSsmRefIdeal.main (F := Ideal))) ⟨m, fun _ => 0, g⟩ (fun r => (∀ c : Dev Cert.ProjSsmRefIdeal.nD,
      r.2.mem ((c.tc : Thread Cert.ProjSsmRefIdeal.nD Cert.ProjSsmRefIdeal.τ).loc Cert.ProjSsmRefIdeal.main_arg0) = m ((c.tc : Thread Cert.ProjSsmRefIdeal.nD Cert.ProjSsmRefIdeal.τ).loc Cert.ProjSsmRefIdeal.main_arg0)
      ∧ r.2.mem ((c.tc : Thread Cert.ProjSsmRefIdeal.nD Cert.ProjSsmRefIdeal.τ).loc Cert.ProjSsmRefIdeal.main_arg1) = m ((c.tc : Thread Cert.ProjSsmRefIdeal.nD Cert.ProjSsmRefIdeal.τ).loc Cert.ProjSsmRefIdeal.main_arg1)
      ∧ r.2.mem ((c.tc : Thread Cert.ProjSsmRefIdeal.nD Cert.ProjSsmRefIdeal.τ).loc Cert.ProjSsmRefIdeal.main_arg2) = m ((c.tc : Thread Cert.ProjSsmRefIdeal.nD Cert.ProjSsmRefIdeal.τ).loc Cert.ProjSsmRefIdeal.main_arg2)
      ∧ r.2.mem ((c.tc : Thread Cert.ProjSsmRefIdeal.nD Cert.ProjSsmRefIdeal.τ).loc Cert.ProjSsmRefIdeal.main_arg3) = m ((c.tc : Thread Cert.ProjSsmRefIdeal.nD Cert.ProjSsmRefIdeal.τ).loc Cert.ProjSsmRefIdeal.main_arg3)
      ∧ r.2.mem ((c.tc : Thread Cert.ProjSsmRefIdeal.nD Cert.ProjSsmRefIdeal.τ).loc Cert.ProjSsmRefIdeal.main_arg4) = m ((c.tc : Thread Cert.ProjSsmRefIdeal.nD Cert.ProjSsmRefIdeal.τ).loc Cert.ProjSsmRefIdeal.main_arg4))
      ∧ r.2.sem = fun _ => 0)

def preserves_Kernel_KernelIdeal : Prop :=
  True

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v9)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v9) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v39) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_ProjAttn_ProjAttnIdeal : Prop :=
  True

def algebraic_ProjAttnIdeal_ProjAttnRefIdeal [hProjAttnIdeal : Cert.ProjAttnIdeal.Facts] [hProjAttnRefIdeal : Cert.ProjAttnRefIdeal.Facts] : Prop :=
  ∀ (m : (ℓ : Loc Cert.ProjAttnIdeal.nD Cert.ProjAttnIdeal.τ Cert.ProjAttnIdeal.sig) → Buf (Elt Ideal) ℓ) (g : Dev Cert.ProjAttnIdeal.nD → PrngReg)
    (m' : (ℓ : Loc Cert.ProjAttnRefIdeal.nD Cert.ProjAttnRefIdeal.τ Cert.ProjAttnRefIdeal.sig) → Buf (Elt Ideal) ℓ) (g' : Dev Cert.ProjAttnRefIdeal.nD → PrngReg), Pre_ProjAttnIdeal m →
    (∀ c : Dev Cert.ProjAttnIdeal.nD,
      m' ((c.tc : Thread Cert.ProjAttnRefIdeal.nD Cert.ProjAttnRefIdeal.τ).loc Cert.ProjAttnRefIdeal.main_arg0) = m ((c.tc : Thread Cert.ProjAttnIdeal.nD Cert.ProjAttnIdeal.τ).loc Cert.ProjAttnIdeal.main_arg0)
      ∧ m' ((c.tc : Thread Cert.ProjAttnRefIdeal.nD Cert.ProjAttnRefIdeal.τ).loc Cert.ProjAttnRefIdeal.main_arg1) = m ((c.tc : Thread Cert.ProjAttnIdeal.nD Cert.ProjAttnIdeal.τ).loc Cert.ProjAttnIdeal.main_arg1)
      ∧ m' ((c.tc : Thread Cert.ProjAttnRefIdeal.nD Cert.ProjAttnRefIdeal.τ).loc Cert.ProjAttnRefIdeal.main_arg2) = m ((c.tc : Thread Cert.ProjAttnIdeal.nD Cert.ProjAttnIdeal.τ).loc Cert.ProjAttnIdeal.main_arg2)
      ∧ m' ((c.tc : Thread Cert.ProjAttnRefIdeal.nD Cert.ProjAttnRefIdeal.τ).loc Cert.ProjAttnRefIdeal.main_arg3) = m ((c.tc : Thread Cert.ProjAttnIdeal.nD Cert.ProjAttnIdeal.τ).loc Cert.ProjAttnIdeal.main_arg3)) →
    ∃ (v0 : (c : Dev Cert.ProjAttnIdeal.nD) → Buf (Elt Ideal) ((c.tc : Thread Cert.ProjAttnIdeal.nD Cert.ProjAttnIdeal.τ).loc Cert.ProjAttnIdeal.main_v35_0)) (v1 : (c : Dev Cert.ProjAttnIdeal.nD) → Buf (Elt Ideal) ((c.tc : Thread Cert.ProjAttnIdeal.nD Cert.ProjAttnIdeal.τ).loc Cert.ProjAttnIdeal.main_v35_1)) (v2 : (c : Dev Cert.ProjAttnIdeal.nD) → Buf (Elt Ideal) ((c.tc : Thread Cert.ProjAttnIdeal.nD Cert.ProjAttnIdeal.τ).loc Cert.ProjAttnIdeal.main_v35_2)) (v3 : (c : Dev Cert.ProjAttnIdeal.nD) → Buf (Elt Ideal) ((c.tc : Thread Cert.ProjAttnIdeal.nD Cert.ProjAttnIdeal.τ).loc Cert.ProjAttnIdeal.main_v35_3)) (v4 : (c : Dev Cert.ProjAttnIdeal.nD) → Buf (Elt Ideal) ((c.tc : Thread Cert.ProjAttnIdeal.nD Cert.ProjAttnIdeal.τ).loc Cert.ProjAttnIdeal.main_v35_4)) (v5 : (c : Dev Cert.ProjAttnIdeal.nD) → Buf (Elt Ideal) ((c.tc : Thread Cert.ProjAttnIdeal.nD Cert.ProjAttnIdeal.τ).loc Cert.ProjAttnIdeal.main_v35_5)) (v6 : (c : Dev Cert.ProjAttnIdeal.nD) → Buf (Elt Ideal) ((c.tc : Thread Cert.ProjAttnIdeal.nD Cert.ProjAttnIdeal.τ).loc Cert.ProjAttnIdeal.main_v35_6)),
      θ_run (Cert.ProjAttnIdeal.defs (F := Ideal)) (onTc (τ := Cert.ProjAttnIdeal.τ) (Cert.ProjAttnIdeal.main (F := Ideal))) ⟨m, fun _ => 0, g⟩ (fun r => ∀ c : Dev Cert.ProjAttnIdeal.nD,
          r.2.mem ((c.tc : Thread Cert.ProjAttnIdeal.nD Cert.ProjAttnIdeal.τ).loc Cert.ProjAttnIdeal.main_v35_0) = v0 c
          ∧ r.2.mem ((c.tc : Thread Cert.ProjAttnIdeal.nD Cert.ProjAttnIdeal.τ).loc Cert.ProjAttnIdeal.main_v35_1) = v1 c
          ∧ r.2.mem ((c.tc : Thread Cert.ProjAttnIdeal.nD Cert.ProjAttnIdeal.τ).loc Cert.ProjAttnIdeal.main_v35_2) = v2 c
          ∧ r.2.mem ((c.tc : Thread Cert.ProjAttnIdeal.nD Cert.ProjAttnIdeal.τ).loc Cert.ProjAttnIdeal.main_v35_3) = v3 c
          ∧ r.2.mem ((c.tc : Thread Cert.ProjAttnIdeal.nD Cert.ProjAttnIdeal.τ).loc Cert.ProjAttnIdeal.main_v35_4) = v4 c
          ∧ r.2.mem ((c.tc : Thread Cert.ProjAttnIdeal.nD Cert.ProjAttnIdeal.τ).loc Cert.ProjAttnIdeal.main_v35_5) = v5 c
          ∧ r.2.mem ((c.tc : Thread Cert.ProjAttnIdeal.nD Cert.ProjAttnIdeal.τ).loc Cert.ProjAttnIdeal.main_v35_6) = v6 c
          ∧ r.2.mem ((c.tc : Thread Cert.ProjAttnIdeal.nD Cert.ProjAttnIdeal.τ).loc Cert.ProjAttnIdeal.main_arg0) = m ((c.tc : Thread Cert.ProjAttnIdeal.nD Cert.ProjAttnIdeal.τ).loc Cert.ProjAttnIdeal.main_arg0)
          ∧ r.2.mem ((c.tc : Thread Cert.ProjAttnIdeal.nD Cert.ProjAttnIdeal.τ).loc Cert.ProjAttnIdeal.main_arg1) = m ((c.tc : Thread Cert.ProjAttnIdeal.nD Cert.ProjAttnIdeal.τ).loc Cert.ProjAttnIdeal.main_arg1)
          ∧ r.2.mem ((c.tc : Thread Cert.ProjAttnIdeal.nD Cert.ProjAttnIdeal.τ).loc Cert.ProjAttnIdeal.main_arg2) = m ((c.tc : Thread Cert.ProjAttnIdeal.nD Cert.ProjAttnIdeal.τ).loc Cert.ProjAttnIdeal.main_arg2)
          ∧ r.2.mem ((c.tc : Thread Cert.ProjAttnIdeal.nD Cert.ProjAttnIdeal.τ).loc Cert.ProjAttnIdeal.main_arg3) = m ((c.tc : Thread Cert.ProjAttnIdeal.nD Cert.ProjAttnIdeal.τ).loc Cert.ProjAttnIdeal.main_arg3))
      ∧ θ_run (Cert.ProjAttnRefIdeal.defs (F := Ideal)) (onTc (τ := Cert.ProjAttnRefIdeal.τ) (Cert.ProjAttnRefIdeal.main (F := Ideal))) ⟨m', fun _ => 0, g'⟩ (fun r => ∀ c : Dev Cert.ProjAttnRefIdeal.nD,
          r.2.mem ((c.tc : Thread Cert.ProjAttnRefIdeal.nD Cert.ProjAttnRefIdeal.τ).loc Cert.ProjAttnRefIdeal.main_v116) = v0 c
          ∧ r.2.mem ((c.tc : Thread Cert.ProjAttnRefIdeal.nD Cert.ProjAttnRefIdeal.τ).loc Cert.ProjAttnRefIdeal.main_v121) = v1 c
          ∧ r.2.mem ((c.tc : Thread Cert.ProjAttnRefIdeal.nD Cert.ProjAttnRefIdeal.τ).loc Cert.ProjAttnRefIdeal.main_v125) = v2 c
          ∧ r.2.mem ((c.tc : Thread Cert.ProjAttnRefIdeal.nD Cert.ProjAttnRefIdeal.τ).loc Cert.ProjAttnRefIdeal.main_v126) = v3 c
          ∧ r.2.mem ((c.tc : Thread Cert.ProjAttnRefIdeal.nD Cert.ProjAttnRefIdeal.τ).loc Cert.ProjAttnRefIdeal.main_v130) = v4 c
          ∧ r.2.mem ((c.tc : Thread Cert.ProjAttnRefIdeal.nD Cert.ProjAttnRefIdeal.τ).loc Cert.ProjAttnRefIdeal.main_v132) = v5 c
          ∧ r.2.mem ((c.tc : Thread Cert.ProjAttnRefIdeal.nD Cert.ProjAttnRefIdeal.τ).loc Cert.ProjAttnRefIdeal.main_v133) = v6 c
          ∧ r.2.mem ((c.tc : Thread Cert.ProjAttnRefIdeal.nD Cert.ProjAttnRefIdeal.τ).loc Cert.ProjAttnRefIdeal.main_arg0) = m' ((c.tc : Thread Cert.ProjAttnRefIdeal.nD Cert.ProjAttnRefIdeal.τ).loc Cert.ProjAttnRefIdeal.main_arg0)
          ∧ r.2.mem ((c.tc : Thread Cert.ProjAttnRefIdeal.nD Cert.ProjAttnRefIdeal.τ).loc Cert.ProjAttnRefIdeal.main_arg1) = m' ((c.tc : Thread Cert.ProjAttnRefIdeal.nD Cert.ProjAttnRefIdeal.τ).loc Cert.ProjAttnRefIdeal.main_arg1)
          ∧ r.2.mem ((c.tc : Thread Cert.ProjAttnRefIdeal.nD Cert.ProjAttnRefIdeal.τ).loc Cert.ProjAttnRefIdeal.main_arg2) = m' ((c.tc : Thread Cert.ProjAttnRefIdeal.nD Cert.ProjAttnRefIdeal.τ).loc Cert.ProjAttnRefIdeal.main_arg2)
          ∧ r.2.mem ((c.tc : Thread Cert.ProjAttnRefIdeal.nD Cert.ProjAttnRefIdeal.τ).loc Cert.ProjAttnRefIdeal.main_arg3) = m' ((c.tc : Thread Cert.ProjAttnRefIdeal.nD Cert.ProjAttnRefIdeal.τ).loc Cert.ProjAttnRefIdeal.main_arg3))

def preserves_ProjSsm_ProjSsmIdeal : Prop :=
  True

def algebraic_ProjSsmIdeal_ProjSsmRefIdeal [hProjSsmIdeal : Cert.ProjSsmIdeal.Facts] [hProjSsmRefIdeal : Cert.ProjSsmRefIdeal.Facts] : Prop :=
  ∀ (m : (ℓ : Loc Cert.ProjSsmIdeal.nD Cert.ProjSsmIdeal.τ Cert.ProjSsmIdeal.sig) → Buf (Elt Ideal) ℓ) (g : Dev Cert.ProjSsmIdeal.nD → PrngReg)
    (m' : (ℓ : Loc Cert.ProjSsmRefIdeal.nD Cert.ProjSsmRefIdeal.τ Cert.ProjSsmRefIdeal.sig) → Buf (Elt Ideal) ℓ) (g' : Dev Cert.ProjSsmRefIdeal.nD → PrngReg), Pre_ProjSsmIdeal m →
    (∀ c : Dev Cert.ProjSsmIdeal.nD,
      m' ((c.tc : Thread Cert.ProjSsmRefIdeal.nD Cert.ProjSsmRefIdeal.τ).loc Cert.ProjSsmRefIdeal.main_arg0) = m ((c.tc : Thread Cert.ProjSsmIdeal.nD Cert.ProjSsmIdeal.τ).loc Cert.ProjSsmIdeal.main_arg0)
      ∧ m' ((c.tc : Thread Cert.ProjSsmRefIdeal.nD Cert.ProjSsmRefIdeal.τ).loc Cert.ProjSsmRefIdeal.main_arg1) = m ((c.tc : Thread Cert.ProjSsmIdeal.nD Cert.ProjSsmIdeal.τ).loc Cert.ProjSsmIdeal.main_arg1)
      ∧ m' ((c.tc : Thread Cert.ProjSsmRefIdeal.nD Cert.ProjSsmRefIdeal.τ).loc Cert.ProjSsmRefIdeal.main_arg2) = m ((c.tc : Thread Cert.ProjSsmIdeal.nD Cert.ProjSsmIdeal.τ).loc Cert.ProjSsmIdeal.main_arg2)
      ∧ m' ((c.tc : Thread Cert.ProjSsmRefIdeal.nD Cert.ProjSsmRefIdeal.τ).loc Cert.ProjSsmRefIdeal.main_arg3) = m ((c.tc : Thread Cert.ProjSsmIdeal.nD Cert.ProjSsmIdeal.τ).loc Cert.ProjSsmIdeal.main_arg3)
      ∧ m' ((c.tc : Thread Cert.ProjSsmRefIdeal.nD Cert.ProjSsmRefIdeal.τ).loc Cert.ProjSsmRefIdeal.main_arg4) = m ((c.tc : Thread Cert.ProjSsmIdeal.nD Cert.ProjSsmIdeal.τ).loc Cert.ProjSsmIdeal.main_arg4)) →
    ∃ (v0 : (c : Dev Cert.ProjSsmIdeal.nD) → Buf (Elt Ideal) ((c.tc : Thread Cert.ProjSsmIdeal.nD Cert.ProjSsmIdeal.τ).loc Cert.ProjSsmIdeal.main_v30_0)) (v1 : (c : Dev Cert.ProjSsmIdeal.nD) → Buf (Elt Ideal) ((c.tc : Thread Cert.ProjSsmIdeal.nD Cert.ProjSsmIdeal.τ).loc Cert.ProjSsmIdeal.main_v30_1)) (v2 : (c : Dev Cert.ProjSsmIdeal.nD) → Buf (Elt Ideal) ((c.tc : Thread Cert.ProjSsmIdeal.nD Cert.ProjSsmIdeal.τ).loc Cert.ProjSsmIdeal.main_v30_2)) (v3 : (c : Dev Cert.ProjSsmIdeal.nD) → Buf (Elt Ideal) ((c.tc : Thread Cert.ProjSsmIdeal.nD Cert.ProjSsmIdeal.τ).loc Cert.ProjSsmIdeal.main_v30_3)) (v4 : (c : Dev Cert.ProjSsmIdeal.nD) → Buf (Elt Ideal) ((c.tc : Thread Cert.ProjSsmIdeal.nD Cert.ProjSsmIdeal.τ).loc Cert.ProjSsmIdeal.main_v30_4)) (v5 : (c : Dev Cert.ProjSsmIdeal.nD) → Buf (Elt Ideal) ((c.tc : Thread Cert.ProjSsmIdeal.nD Cert.ProjSsmIdeal.τ).loc Cert.ProjSsmIdeal.main_v30_5)),
      θ_run (Cert.ProjSsmIdeal.defs (F := Ideal)) (onTc (τ := Cert.ProjSsmIdeal.τ) (Cert.ProjSsmIdeal.main (F := Ideal))) ⟨m, fun _ => 0, g⟩ (fun r => ∀ c : Dev Cert.ProjSsmIdeal.nD,
          r.2.mem ((c.tc : Thread Cert.ProjSsmIdeal.nD Cert.ProjSsmIdeal.τ).loc Cert.ProjSsmIdeal.main_v30_0) = v0 c
          ∧ r.2.mem ((c.tc : Thread Cert.ProjSsmIdeal.nD Cert.ProjSsmIdeal.τ).loc Cert.ProjSsmIdeal.main_v30_1) = v1 c
          ∧ r.2.mem ((c.tc : Thread Cert.ProjSsmIdeal.nD Cert.ProjSsmIdeal.τ).loc Cert.ProjSsmIdeal.main_v30_2) = v2 c
          ∧ r.2.mem ((c.tc : Thread Cert.ProjSsmIdeal.nD Cert.ProjSsmIdeal.τ).loc Cert.ProjSsmIdeal.main_v30_3) = v3 c
          ∧ r.2.mem ((c.tc : Thread Cert.ProjSsmIdeal.nD Cert.ProjSsmIdeal.τ).loc Cert.ProjSsmIdeal.main_v30_4) = v4 c
          ∧ r.2.mem ((c.tc : Thread Cert.ProjSsmIdeal.nD Cert.ProjSsmIdeal.τ).loc Cert.ProjSsmIdeal.main_v30_5) = v5 c
          ∧ r.2.mem ((c.tc : Thread Cert.ProjSsmIdeal.nD Cert.ProjSsmIdeal.τ).loc Cert.ProjSsmIdeal.main_arg0) = m ((c.tc : Thread Cert.ProjSsmIdeal.nD Cert.ProjSsmIdeal.τ).loc Cert.ProjSsmIdeal.main_arg0)
          ∧ r.2.mem ((c.tc : Thread Cert.ProjSsmIdeal.nD Cert.ProjSsmIdeal.τ).loc Cert.ProjSsmIdeal.main_arg1) = m ((c.tc : Thread Cert.ProjSsmIdeal.nD Cert.ProjSsmIdeal.τ).loc Cert.ProjSsmIdeal.main_arg1)
          ∧ r.2.mem ((c.tc : Thread Cert.ProjSsmIdeal.nD Cert.ProjSsmIdeal.τ).loc Cert.ProjSsmIdeal.main_arg2) = m ((c.tc : Thread Cert.ProjSsmIdeal.nD Cert.ProjSsmIdeal.τ).loc Cert.ProjSsmIdeal.main_arg2)
          ∧ r.2.mem ((c.tc : Thread Cert.ProjSsmIdeal.nD Cert.ProjSsmIdeal.τ).loc Cert.ProjSsmIdeal.main_arg3) = m ((c.tc : Thread Cert.ProjSsmIdeal.nD Cert.ProjSsmIdeal.τ).loc Cert.ProjSsmIdeal.main_arg3)
          ∧ r.2.mem ((c.tc : Thread Cert.ProjSsmIdeal.nD Cert.ProjSsmIdeal.τ).loc Cert.ProjSsmIdeal.main_arg4) = m ((c.tc : Thread Cert.ProjSsmIdeal.nD Cert.ProjSsmIdeal.τ).loc Cert.ProjSsmIdeal.main_arg4))
      ∧ θ_run (Cert.ProjSsmRefIdeal.defs (F := Ideal)) (onTc (τ := Cert.ProjSsmRefIdeal.τ) (Cert.ProjSsmRefIdeal.main (F := Ideal))) ⟨m', fun _ => 0, g'⟩ (fun r => ∀ c : Dev Cert.ProjSsmRefIdeal.nD,
          r.2.mem ((c.tc : Thread Cert.ProjSsmRefIdeal.nD Cert.ProjSsmRefIdeal.τ).loc Cert.ProjSsmRefIdeal.main_v67) = v0 c
          ∧ r.2.mem ((c.tc : Thread Cert.ProjSsmRefIdeal.nD Cert.ProjSsmRefIdeal.τ).loc Cert.ProjSsmRefIdeal.main_v71) = v1 c
          ∧ r.2.mem ((c.tc : Thread Cert.ProjSsmRefIdeal.nD Cert.ProjSsmRefIdeal.τ).loc Cert.ProjSsmRefIdeal.main_v75) = v2 c
          ∧ r.2.mem ((c.tc : Thread Cert.ProjSsmRefIdeal.nD Cert.ProjSsmRefIdeal.τ).loc Cert.ProjSsmRefIdeal.main_v77) = v3 c
          ∧ r.2.mem ((c.tc : Thread Cert.ProjSsmRefIdeal.nD Cert.ProjSsmRefIdeal.τ).loc Cert.ProjSsmRefIdeal.main_v78) = v4 c
          ∧ r.2.mem ((c.tc : Thread Cert.ProjSsmRefIdeal.nD Cert.ProjSsmRefIdeal.τ).loc Cert.ProjSsmRefIdeal.main_v19) = v5 c
          ∧ r.2.mem ((c.tc : Thread Cert.ProjSsmRefIdeal.nD Cert.ProjSsmRefIdeal.τ).loc Cert.ProjSsmRefIdeal.main_arg0) = m' ((c.tc : Thread Cert.ProjSsmRefIdeal.nD Cert.ProjSsmRefIdeal.τ).loc Cert.ProjSsmRefIdeal.main_arg0)
          ∧ r.2.mem ((c.tc : Thread Cert.ProjSsmRefIdeal.nD Cert.ProjSsmRefIdeal.τ).loc Cert.ProjSsmRefIdeal.main_arg1) = m' ((c.tc : Thread Cert.ProjSsmRefIdeal.nD Cert.ProjSsmRefIdeal.τ).loc Cert.ProjSsmRefIdeal.main_arg1)
          ∧ r.2.mem ((c.tc : Thread Cert.ProjSsmRefIdeal.nD Cert.ProjSsmRefIdeal.τ).loc Cert.ProjSsmRefIdeal.main_arg2) = m' ((c.tc : Thread Cert.ProjSsmRefIdeal.nD Cert.ProjSsmRefIdeal.τ).loc Cert.ProjSsmRefIdeal.main_arg2)
          ∧ r.2.mem ((c.tc : Thread Cert.ProjSsmRefIdeal.nD Cert.ProjSsmRefIdeal.τ).loc Cert.ProjSsmRefIdeal.main_arg3) = m' ((c.tc : Thread Cert.ProjSsmRefIdeal.nD Cert.ProjSsmRefIdeal.τ).loc Cert.ProjSsmRefIdeal.main_arg3)
          ∧ r.2.mem ((c.tc : Thread Cert.ProjSsmRefIdeal.nD Cert.ProjSsmRefIdeal.τ).loc Cert.ProjSsmRefIdeal.main_arg4) = m' ((c.tc : Thread Cert.ProjSsmRefIdeal.nD Cert.ProjSsmRefIdeal.τ).loc Cert.ProjSsmRefIdeal.main_arg4))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeRefIdeal : Cert.MergeRefIdeal.Facts) (hProjAttn : Cert.ProjAttn.Facts) (hProjAttnIdeal : Cert.ProjAttnIdeal.Facts) (hProjAttnRefIdeal : Cert.ProjAttnRefIdeal.Facts) (hProjSsm : Cert.ProjSsm.Facts) (hProjSsmIdeal : Cert.ProjSsmIdeal.Facts) (hProjSsmRefIdeal : Cert.ProjSsmRefIdeal.Facts),
    quiescent_Kernel (hKernel := hKernel)
    ∧ quiescent_KernelIdeal (hKernelIdeal := hKernelIdeal)
    ∧ quiescent_ReferenceIdeal (hReferenceIdeal := hReferenceIdeal)
    ∧ quiescent_Merge (hMerge := hMerge)
    ∧ quiescent_MergeIdeal (hMergeIdeal := hMergeIdeal)
    ∧ quiescent_MergeRefIdeal (hMergeRefIdeal := hMergeRefIdeal)
    ∧ quiescent_ProjAttn (hProjAttn := hProjAttn)
    ∧ quiescent_ProjAttnIdeal (hProjAttnIdeal := hProjAttnIdeal)
    ∧ quiescent_ProjAttnRefIdeal (hProjAttnRefIdeal := hProjAttnRefIdeal)
    ∧ quiescent_ProjSsm (hProjSsm := hProjSsm)
    ∧ quiescent_ProjSsmIdeal (hProjSsmIdeal := hProjSsmIdeal)
    ∧ quiescent_ProjSsmRefIdeal (hProjSsmRefIdeal := hProjSsmRefIdeal)
    ∧ preserves_Kernel_KernelIdeal
    ∧ preserves_Merge_MergeIdeal
    ∧ algebraic_MergeIdeal_MergeRefIdeal (hMergeIdeal := hMergeIdeal) (hMergeRefIdeal := hMergeRefIdeal)
    ∧ preserves_ProjAttn_ProjAttnIdeal
    ∧ algebraic_ProjAttnIdeal_ProjAttnRefIdeal (hProjAttnIdeal := hProjAttnIdeal) (hProjAttnRefIdeal := hProjAttnRefIdeal)
    ∧ preserves_ProjSsm_ProjSsmIdeal
    ∧ algebraic_ProjSsmIdeal_ProjSsmRefIdeal (hProjSsmIdeal := hProjSsmIdeal) (hProjSsmRefIdeal := hProjSsmRefIdeal)
-- ==== Kernel.lean ====
abbrev S8x16x1024x128 : Shape := ⟨4, ![8, 16, 1024, 128]⟩
abbrev S8x16x512x128 : Shape := ⟨4, ![8, 16, 512, 128]⟩
abbrev S8x16x2048 : Shape := ⟨3, ![8, 16, 2048]⟩
abbrev S1x16 : Shape := ⟨2, ![1, 16]⟩
abbrev S1x1024 : Shape := ⟨2, ![1, 1024]⟩
abbrev S8x16x256x128 : Shape := ⟨4, ![8, 16, 256, 128]⟩
abbrev S8x16x128x256 : Shape := ⟨4, ![8, 16, 128, 256]⟩
abbrev S8x2048x256 : Shape := ⟨3, ![8, 2048, 256]⟩
abbrev S16 : Shape := ⟨1, ![16]⟩
abbrev S16x1 : Shape := ⟨2, ![16, 1]⟩
abbrev S16x64 : Shape := ⟨2, ![16, 64]⟩
abbrev S1024 : Shape := ⟨1, ![1024]⟩
abbrev S1024x1 : Shape := ⟨2, ![1024, 1]⟩
abbrev S1024x128 : Shape := ⟨2, ![1024, 128]⟩
abbrev S1x4x1024x128 : Shape := ⟨4, ![1, 4, 1024, 128]⟩
abbrev S1x4x512x128 : Shape := ⟨4, ![1, 4, 512, 128]⟩
abbrev S1x512x256 : Shape := ⟨3, ![1, 512, 256]⟩
abbrev S1x16x2048 : Shape := ⟨3, ![1, 16, 2048]⟩
abbrev S16x64x64 : Shape := ⟨3, ![16, 64, 64]⟩
abbrev S16x2048 : Shape := ⟨2, ![16, 2048]⟩
abbrev S2048x128 : Shape := ⟨2, ![2048, 128]⟩
abbrev S128x2048 : Shape := ⟨2, ![128, 2048]⟩
abbrev S128x128 : Shape := ⟨2, ![128, 128]⟩
abbrev S112x128 : Shape := ⟨2, ![112, 128]⟩
abbrev S16x128 : Shape := ⟨2, ![16, 128]⟩
abbrev S128x1 : Shape := ⟨2, ![128, 1]⟩
abbrev S1x1x64x128 : Shape := ⟨4, ![1, 1, 64, 128]⟩
abbrev S64x128 : Shape := ⟨2, ![64, 128]⟩
abbrev S1x128x64 : Shape := ⟨3, ![1, 128, 64]⟩
abbrev S128x64 : Shape := ⟨2, ![128, 64]⟩
abbrev S1x128 : Shape := ⟨2, ![1, 128]⟩
abbrev S1x1 : Shape := ⟨2, ![1, 1]⟩
abbrev S1x64x64 : Shape := ⟨3, ![1, 64, 64]⟩
abbrev S64x64 : Shape := ⟨2, ![64, 64]⟩
abbrev S256x128 : Shape := ⟨2, ![256, 128]⟩
abbrev S1x1x256x128 : Shape := ⟨4, ![1, 1, 256, 128]⟩
abbrev S128 : Shape := ⟨1, ![128]⟩

abbrev nBuf : Space → Nat
  | .hbm => 24
  | .vmem => 23
  | .smem => 0
  | _ => 0

abbrev bufTy : (tb : Table) → Fin (tcTables nBuf tb) → BufTy
  | .hbm, ⟨0, _⟩ => ⟨S8x16x1024x128, .bf16⟩
  | .hbm, ⟨1, _⟩ => ⟨S8x16x512x128, .bf16⟩
  | .hbm, ⟨2, _⟩ => ⟨S8x16x2048, .f32⟩
  | .hbm, ⟨3, _⟩ => ⟨S8x16x1024x128, .f32⟩
  | .hbm, ⟨4, _⟩ => ⟨S1x16, .f32⟩
  | .hbm, ⟨5, _⟩ => ⟨S1x16, .f32⟩
  | .hbm, ⟨6, _⟩ => ⟨S1x16, .f32⟩
  | .hbm, ⟨7, _⟩ => ⟨S1x1024, .f32⟩
  | .hbm, ⟨8, _⟩ => ⟨S8x16x256x128, .bf16⟩
  | .hbm, ⟨9, _⟩ => ⟨S8x16x128x256, .bf16⟩
  | .hbm, ⟨10, _⟩ => ⟨S8x2048x256, .bf16⟩
  | .hbm, ⟨11, _⟩ => ⟨S16, .f32⟩
  | .hbm, ⟨12, _⟩ => ⟨S16x1, .f32⟩
  | .hbm, ⟨13, _⟩ => ⟨S16, .f32⟩
  | .hbm, ⟨14, _⟩ => ⟨S16x1, .f32⟩
  | .hbm, ⟨15, _⟩ => ⟨S16, .f32⟩
  | .hbm, ⟨16, _⟩ => ⟨S16x64, .f32⟩
  | .hbm, ⟨17, _⟩ => ⟨S1024, .f32⟩
  | .hbm, ⟨18, _⟩ => ⟨S1024x1, .f32⟩
  | .hbm, ⟨19, _⟩ => ⟨S1024x128, .f32⟩
  | .hbm, ⟨20, _⟩ => ⟨S1024, .f32⟩
  | .hbm, ⟨21, _⟩ => ⟨S1024x1, .f32⟩
  | .hbm, ⟨22, _⟩ => ⟨S1024x128, .f32⟩
  | .hbm, ⟨23, _⟩ => ⟨S8x16x1024x128, .bf16⟩
  | .local _ .vmem, ⟨0, _⟩ => ⟨S1x4x1024x128, .bf16⟩
  | .local _ .vmem, ⟨1, _⟩ => ⟨S1x4x1024x128, .bf16⟩
  | .local _ .vmem, ⟨2, _⟩ => ⟨S1x4x512x128, .bf16⟩
  | .local _ .vmem, ⟨3, _⟩ => ⟨S1x4x512x128, .bf16⟩
  | .local _ .vmem, ⟨4, _⟩ => ⟨S1x512x256, .bf16⟩
  | .local _ .vmem, ⟨5, _⟩ => ⟨S1x512x256, .bf16⟩
  | .local _ .vmem, ⟨6, _⟩ => ⟨S1x16x2048, .f32⟩
  | .local _ .vmem, ⟨7, _⟩ => ⟨S1x16x2048, .f32⟩
  | .local _ .vmem, ⟨8, _⟩ => ⟨S1x4x1024x128, .f32⟩
  | .local _ .vmem, ⟨9, _⟩ => ⟨S1x4x1024x128, .f32⟩
  | .local _ .vmem, ⟨10, _⟩ => ⟨S16x1, .f32⟩
  | .local _ .vmem, ⟨11, _⟩ => ⟨S16x1, .f32⟩
  | .local _ .vmem, ⟨12, _⟩ => ⟨S1024x128, .f32⟩
  | .local _ .vmem, ⟨13, _⟩ => ⟨S1024x128, .f32⟩
  | .local _ .vmem, ⟨14, _⟩ => ⟨S1x4x1024x128, .bf16⟩
  | .local _ .vmem, ⟨15, _⟩ => ⟨S1x4x1024x128, .bf16⟩
  | .local _ .vmem, ⟨16, _⟩ => ⟨S16x64x64, .f32⟩
  | .local _ .vmem, ⟨17, _⟩ => ⟨S1024x128, .f32⟩
  | .local _ .vmem, ⟨18, _⟩ => ⟨S16x2048, .f32⟩
  | .local _ .vmem, ⟨19, _⟩ => ⟨S2048x128, .f32⟩
  | .local _ .vmem, ⟨20, _⟩ => ⟨S16x2048, .f32⟩
  | .local _ .vmem, ⟨21, _⟩ => ⟨S128x2048, .f32⟩
  | .local _ .vmem, ⟨22, _⟩ => ⟨S128x2048, .f32⟩
  | _, _ => ⟨S8x16x1024x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c0_i32_1 : BitVec 32 := 0#32
  let v6 : BitVec 1 := Scalar.cmpi .eq arg1 c0_i32_1
  let v7 : BitVec 32 := Scalar.extui v6
  let c0_i32_2 : BitVec 32 := 0#32
  let v8 : BitVec 1 := Scalar.cmpi .ne v7 c0_i32_2
  v8

def k0_mult1 : BitVec 32 :=
  let c0_i32_1849 : BitVec 32 := 0#32
  c0_i32_1849
def k0_mult2 (i : grid0.Coords) : BitVec 32 :=
  let arg1 : BitVec 32 := BitVec.ofNat 32 (i 1).val
  let c4_i32 : BitVec 32 := 4#32
  let v9 : BitVec 32 := Scalar.muli arg1 c4_i32
  let c0_i32_3 : BitVec 32 := 0#32
  let v10 : BitVec 32 := Scalar.addi v9 c0_i32_3
  let c128_i32 : BitVec 32 := 128#32
  let v11 : BitVec 32 := Scalar.muli v10 c128_i32
  v11
def k0_off1 (i : grid0.Coords) (c0_i32_3 : BitVec 32) : Fin 2 → Nat :=
  let c0 : Index := 0#32
  let arg1 : BitVec 32 := BitVec.ofNat 32 (i 1).val
  let c4_i32 : BitVec 32 := 4#32
  let v9 : BitVec 32 := Scalar.muli arg1 c4_i32
  let v10 : BitVec 32 := Scalar.addi v9 c0_i32_3
  let c128_i32 : BitVec 32 := 128#32
  let v11 : BitVec 32 := Scalar.muli v10 c128_i32
  let v12 : BitVec 32 := v11
  let v13 : Index := Scalar.indexCast v12
  ![0, v13.toNat]
def k0_mult3 (i : grid0.Coords) : BitVec 32 :=
  let arg1 : BitVec 32 := BitVec.ofNat 32 (i 1).val
  let c4_i32 : BitVec 32 := 4#32
  let v9 : BitVec 32 := Scalar.muli arg1 c4_i32
  let c0_i32_3 : BitVec 32 := 0#32
  let v10 : BitVec 32 := Scalar.addi v9 c0_i32_3
  let c1_i32 : BitVec 32 := 1#32
  let v26 : BitVec 32 := Scalar.addi v10 c1_i32
  let c15_i32 : BitVec 32 := 15#32
  let v27 : BitVec 32 := Scalar.minsi v26 c15_i32
  let c128_i32_16 : BitVec 32 := 128#32
  let v28 : BitVec 32 := Scalar.muli v27 c128_i32_16
  v28
def k0_off2 (i : grid0.Coords) (c0_i32_3 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32_3
  let c1_i32 : BitVec 32 := 1#32
  let v26 : BitVec 32 := Scalar.addi v10 c1_i32
  let c15_i32 : BitVec 32 := 15#32
  let v27 : BitVec 32 := Scalar.minsi v26 c15_i32
  let c128_i32_16 : BitVec 32 := 128#32
  let v28 : BitVec 32 := Scalar.muli v27 c128_i32_16
  let v29 : BitVec 32 := v28
  let v30 : Index := Scalar.indexCast v29
  let c0_17 : Index := 0#32
  ![v30.toNat, 0]
def k0_mult4 (i : grid0.Coords) : BitVec 32 :=
  let arg1 : BitVec 32 := BitVec.ofNat 32 (i 1).val
  let c4_i32_432 : BitVec 32 := 4#32
  let v999 : BitVec 32 := Scalar.muli arg1 c4_i32_432
  let c1_i32_433 : BitVec 32 := 1#32
  let v1000 : BitVec 32 := Scalar.addi v999 c1_i32_433
  let c128_i32_434 : BitVec 32 := 128#32
  let v1001 : BitVec 32 := Scalar.muli v1000 c128_i32_434
  v1001
def k0_mult5 (i : grid0.Coords) : BitVec 32 :=
  let arg1 : BitVec 32 := BitVec.ofNat 32 (i 1).val
  let c4_i32_432 : BitVec 32 := 4#32
  let v999 : BitVec 32 := Scalar.muli arg1 c4_i32_432
  let c1_i32_433 : BitVec 32 := 1#32
  let v1000 : BitVec 32 := Scalar.addi v999 c1_i32_433
  let c1_i32_450 : BitVec 32 := 1#32
  let v1016 : BitVec 32 := Scalar.addi v1000 c1_i32_450
  let c15_i32_451 : BitVec 32 := 15#32
  let v1017 : BitVec 32 := Scalar.minsi v1016 c15_i32_451
  let c128_i32_452 : BitVec 32 := 128#32
  let v1018 : BitVec 32 := Scalar.muli v1017 c128_i32_452
  v1018
def k0_mult6 (i : grid0.Coords) : BitVec 32 :=
  let arg1 : BitVec 32 := BitVec.ofNat 32 (i 1).val
  let c4_i32_905 : BitVec 32 := 4#32
  let v1989 : BitVec 32 := Scalar.muli arg1 c4_i32_905
  let c2_i32 : BitVec 32 := 2#32
  let v1990 : BitVec 32 := Scalar.addi v1989 c2_i32
  let c128_i32_906 : BitVec 32 := 128#32
  let v1991 : BitVec 32 := Scalar.muli v1990 c128_i32_906
  v1991
def k0_mult7 (i : grid0.Coords) : BitVec 32 :=
  let arg1 : BitVec 32 := BitVec.ofNat 32 (i 1).val
  let c4_i32_905 : BitVec 32 := 4#32
  let v1989 : BitVec 32 := Scalar.muli arg1 c4_i32_905
  let c2_i32 : BitVec 32 := 2#32
  let v1990 : BitVec 32 := Scalar.addi v1989 c2_i32
  let c1_i32_922 : BitVec 32 := 1#32
  let v2006 : BitVec 32 := Scalar.addi v1990 c1_i32_922
  let c15_i32_923 : BitVec 32 := 15#32
  let v2007 : BitVec 32 := Scalar.minsi v2006 c15_i32_923
  let c128_i32_924 : BitVec 32 := 128#32
  let v2008 : BitVec 32 := Scalar.muli v2007 c128_i32_924
  v2008
def k0_mult8 (i : grid0.Coords) : BitVec 32 :=
  let arg1 : BitVec 32 := BitVec.ofNat 32 (i 1).val
  let c4_i32_1377 : BitVec 32 := 4#32
  let v2979 : BitVec 32 := Scalar.muli arg1 c4_i32_1377
  let c3_i32 : BitVec 32 := 3#32
  let v2980 : BitVec 32 := Scalar.addi v2979 c3_i32
  let c128_i32_1378 : BitVec 32 := 128#32
  let v2981 : BitVec 32 := Scalar.muli v2980 c128_i32_1378
  v2981
def k0_mult9 (i : grid0.Coords) : BitVec 32 :=
  let arg1 : BitVec 32 := BitVec.ofNat 32 (i 1).val
  let c4_i32_1377 : BitVec 32 := 4#32
  let v2979 : BitVec 32 := Scalar.muli arg1 c4_i32_1377
  let c3_i32 : BitVec 32 := 3#32
  let v2980 : BitVec 32 := Scalar.addi v2979 c3_i32
  let c1_i32_1394 : BitVec 32 := 1#32
  let v2996 : BitVec 32 := Scalar.addi v2980 c1_i32_1394
  let c15_i32_1395 : BitVec 32 := 15#32
  let v2997 : BitVec 32 := Scalar.minsi v2996 c15_i32_1395
  let c128_i32_1396 : BitVec 32 := 128#32
  let v2998 : BitVec 32 := Scalar.muli v2997 c128_i32_1396
  v2998
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x4x1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S8x16x1024x128 : Shape := ⟨4, ![8, 16, 1024, 128]⟩
abbrev S8x16x512x128 : Shape := ⟨4, ![8, 16, 512, 128]⟩
abbrev S8x16x2048 : Shape := ⟨3, ![8, 16, 2048]⟩
abbrev S1x16 : Shape := ⟨2, ![1, 16]⟩
abbrev S1x1024 : Shape := ⟨2, ![1, 1024]⟩
abbrev S8x16x128x1024 : Shape := ⟨4, ![8, 16, 128, 1024]⟩
abbrev S8x2048x1024 : Shape := ⟨3, ![8, 2048, 1024]⟩
abbrev S8x16x128x512 : Shape := ⟨4, ![8, 16, 128, 512]⟩
abbrev S8x2048x512 : Shape := ⟨3, ![8, 2048, 512]⟩
abbrev S8x2048x256 : Shape := ⟨3, ![8, 2048, 256]⟩
abbrev S8x2048x16 : Shape := ⟨3, ![8, 2048, 16]⟩
abbrev S16 : Shape := ⟨1, ![16]⟩
abbrev S1x1x16 : Shape := ⟨3, ![1, 1, 16]⟩
abbrev S_ : Shape := ⟨0, ![]⟩
abbrev S8x2048x16x64 : Shape := ⟨4, ![8, 2048, 16, 64]⟩
abbrev S8x2048x4x64 : Shape := ⟨4, ![8, 2048, 4, 64]⟩
abbrev S8x2048x16x1 : Shape := ⟨4, ![8, 2048, 16, 1]⟩
abbrev S8x16x128x4x4x64 : Shape := ⟨6, ![8, 16, 128, 4, 4, 64]⟩
abbrev S8x16x128x4x4 : Shape := ⟨5, ![8, 16, 128, 4, 4]⟩
abbrev S8x4x4x16x128 : Shape := ⟨5, ![8, 4, 4, 16, 128]⟩
abbrev S8x16x128x4x64 : Shape := ⟨5, ![8, 16, 128, 4, 64]⟩
abbrev S8x4x4x16x128x1 : Shape := ⟨6, ![8, 4, 4, 16, 128, 1]⟩
abbrev S8x4x4x16x128x128 : Shape := ⟨6, ![8, 4, 4, 16, 128, 128]⟩
abbrev S128x128 : Shape := ⟨2, ![128, 128]⟩
abbrev S8x16x4x128x128 : Shape := ⟨5, ![8, 16, 4, 128, 128]⟩
abbrev S8x16x4x1x128x128 : Shape := ⟨6, ![8, 16, 4, 1, 128, 128]⟩
abbrev S8x16x4x4x128x128 : Shape := ⟨6, ![8, 16, 4, 4, 128, 128]⟩
abbrev S8x16x4x4x64x128 : Shape := ⟨6, ![8, 16, 4, 4, 64, 128]⟩
abbrev S8x4x4x16x1 : Shape := ⟨5, ![8, 4, 4, 16, 1]⟩
abbrev S8x16x128x4x4x1 : Shape := ⟨6, ![8, 16, 128, 4, 4, 1]⟩
abbrev S8x16x4x4x64x64 : Shape := ⟨6, ![8, 16, 4, 4, 64, 64]⟩
abbrev S8x1x4x4x64x64 : Shape := ⟨6, ![8, 1, 4, 4, 64, 64]⟩
abbrev S8x17x4x4x64x64 : Shape := ⟨6, ![8, 17, 4, 4, 64, 64]⟩
abbrev S8x4x4x16 : Shape := ⟨4, ![8, 4, 4, 16]⟩
abbrev S8x4x4x17 : Shape := ⟨4, ![8, 4, 4, 17]⟩
abbrev S8x4x4x17x1 : Shape := ⟨5, ![8, 4, 4, 17, 1]⟩
abbrev S8x4x4x17x17 : Shape := ⟨5, ![8, 4, 4, 17, 17]⟩
abbrev S17x17 : Shape := ⟨2, ![17, 17]⟩
abbrev S8x4x4x64x64x17 : Shape := ⟨6, ![8, 4, 4, 64, 64, 17]⟩
abbrev S16x1 : Shape := ⟨2, ![16, 1]⟩
abbrev S1x1x16x1 : Shape := ⟨4, ![1, 1, 16, 1]⟩
abbrev S1024 : Shape := ⟨1, ![1024]⟩
abbrev S8x2048x4x256 : Shape := ⟨4, ![8, 2048, 4, 256]⟩
abbrev S8x2048x4 : Shape := ⟨3, ![8, 2048, 4]⟩
abbrev S8x2048x4x1 : Shape := ⟨4, ![8, 2048, 4, 1]⟩
abbrev S1x1x1024 : Shape := ⟨3, ![1, 1, 1024]⟩

abbrev nBuf : Space → Nat
  | .hbm => 209
  | .vmem => 0
  | .smem => 0
  | _ => 0

abbrev hbmTy0_0 (i : Nat) : BufTy := match i % 128 with
  | 0 => ⟨S8x16x1024x128, .bf16⟩
  | 1 => ⟨S8x16x512x128, .bf16⟩
  | 2 => ⟨S8x16x2048, .f32⟩
  | 3 => ⟨S8x16x1024x128, .f32⟩
  | 4 => ⟨S1x16, .f32⟩
  | 5 => ⟨S1x16, .f32⟩
  | 6 => ⟨S1x16, .f32⟩
  | 7 => ⟨S1x1024, .f32⟩
  | 8 => ⟨S8x16x1024x128, .f32⟩
  | 9 => ⟨S8x16x128x1024, .f32⟩
  | 10 => ⟨S8x2048x1024, .f32⟩
  | 11 => ⟨S8x16x512x128, .f32⟩
  | 12 => ⟨S8x16x128x512, .f32⟩
  | 13 => ⟨S8x2048x512, .f32⟩
  | 14 => ⟨S8x2048x256, .f32⟩
  | 15 => ⟨S8x2048x256, .f32⟩
  | 16 => ⟨S8x16x128x1024, .f32⟩
  | 17 => ⟨S8x2048x1024, .f32⟩
  | 18 => ⟨S8x2048x16, .f32⟩
  | 19 => ⟨S16, .f32⟩
  | 20 => ⟨S1x1x16, .f32⟩
  | 21 => ⟨S8x2048x16, .f32⟩
  | 22 => ⟨S8x2048x16, .f32⟩
  | 23 => ⟨S_, .f32⟩
  | 24 => ⟨S8x2048x16, .f32⟩
  | 25 => ⟨S8x2048x16, .f32⟩
  | 26 => ⟨S8x2048x16, .f32⟩
  | 27 => ⟨S8x2048x16, .f32⟩
  | 28 => ⟨S8x2048x16, .i1⟩
  | 29 => ⟨S8x2048x16, .f32⟩
  | 30 => ⟨S8x2048x16, .f32⟩
  | 31 => ⟨S8x2048x16, .f32⟩
  | 32 => ⟨S8x2048x16, .f32⟩
  | 33 => ⟨S8x2048x16, .f32⟩
  | 34 => ⟨S8x2048x16, .f32⟩
  | 35 => ⟨S8x2048x16, .f32⟩
  | 36 => ⟨S8x2048x16, .f32⟩
  | 37 => ⟨S16, .f32⟩
  | 38 => ⟨S16, .f32⟩
  | 39 => ⟨S16, .f32⟩
  | 40 => ⟨S8x2048x16x64, .f32⟩
  | 41 => ⟨S8x2048x4x64, .f32⟩
  | 42 => ⟨S8x2048x4x64, .f32⟩
  | 43 => ⟨S8x2048x16x1, .f32⟩
  | 44 => ⟨S8x2048x16x64, .f32⟩
  | 45 => ⟨S8x2048x16x64, .f32⟩
  | 46 => ⟨S8x16x128x4x4x64, .f32⟩
  | 47 => ⟨S1x1x16, .f32⟩
  | 48 => ⟨S8x2048x16, .f32⟩
  | 49 => ⟨S8x2048x16, .f32⟩
  | 50 => ⟨S8x16x128x4x4, .f32⟩
  | 51 => ⟨S8x4x4x16x128, .f32⟩
  | 52 => ⟨S8x16x128x4x64, .f32⟩
  | 53 => ⟨S8x16x128x4x64, .f32⟩
  | 54 => ⟨S_, .f32⟩
  | 55 => ⟨S_, .f32⟩
  | 56 => ⟨S8x4x4x16x128, .f32⟩
  | 57 => ⟨S8x4x4x16x128x1, .f32⟩
  | 58 => ⟨S8x4x4x16x128x128, .f32⟩
  | 59 => ⟨S_, .i1⟩
  | 60 => ⟨S128x128, .i1⟩
  | 61 => ⟨S128x128, .i32⟩
  | 62 => ⟨S_, .i32⟩
  | 63 => ⟨S128x128, .i32⟩
  | 64 => ⟨S128x128, .i32⟩
  | 65 => ⟨S128x128, .i32⟩
  | 66 => ⟨S128x128, .i1⟩
  | 67 => ⟨S_, .i1⟩
  | 68 => ⟨S128x128, .i1⟩
  | 69 => ⟨S128x128, .i1⟩
  | 70 => ⟨S_, .f32⟩
  | 71 => ⟨S_, .f32⟩
  | 72 => ⟨S8x4x4x16x128x128, .i1⟩
  | 73 => ⟨S8x4x4x16x128x128, .f32⟩
  | 74 => ⟨S8x4x4x16x128x128, .f32⟩
  | 75 => ⟨S_, .f32⟩
  | 76 => ⟨S_, .f32⟩
  | 77 => ⟨S8x4x4x16x128x128, .f32⟩
  | 78 => ⟨S_, .i1⟩
  | 79 => ⟨S128x128, .i1⟩
  | 80 => ⟨S128x128, .i32⟩
  | 81 => ⟨S_, .i32⟩
  | 82 => ⟨S128x128, .i32⟩
  | 83 => ⟨S128x128, .i32⟩
  | 84 => ⟨S128x128, .i32⟩
  | 85 => ⟨S128x128, .i1⟩
  | 86 => ⟨S_, .i1⟩
  | 87 => ⟨S128x128, .i1⟩
  | 88 => ⟨S128x128, .i1⟩
  | 89 => ⟨S_, .f32⟩
  | 90 => ⟨S_, .f32⟩
  | 91 => ⟨S8x4x4x16x128x128, .i1⟩
  | 92 => ⟨S8x4x4x16x128x128, .f32⟩
  | 93 => ⟨S8x4x4x16x128x128, .f32⟩
  | 94 => ⟨S8x4x4x16x128x128, .f32⟩
  | 95 => ⟨S8x16x4x128x128, .f32⟩
  | 96 => ⟨S8x16x4x1x128x128, .f32⟩
  | 97 => ⟨S8x16x4x4x128x128, .f32⟩
  | 98 => ⟨S8x16x4x4x128x128, .f32⟩
  | 99 => ⟨S8x16x4x4x128x128, .f32⟩
  | 100 => ⟨S8x16x4x4x64x128, .f32⟩
  | 101 => ⟨S8x16x128x4x4x64, .f32⟩
  | 102 => ⟨S8x4x4x16x1, .f32⟩
  | 103 => ⟨S8x4x4x16x128, .f32⟩
  | 104 => ⟨S8x4x4x16x128, .f32⟩
  | 105 => ⟨S8x4x4x16x128, .f32⟩
  | 106 => ⟨S8x16x128x4x4, .f32⟩
  | 107 => ⟨S8x16x128x4x4x1, .f32⟩
  | 108 => ⟨S8x16x128x4x4x64, .f32⟩
  | 109 => ⟨S8x16x128x4x4x64, .f32⟩
  | 110 => ⟨S8x16x4x4x64x64, .f32⟩
  | 111 => ⟨S8x1x4x4x64x64, .f32⟩
  | 112 => ⟨S_, .f32⟩
  | 113 => ⟨S8x1x4x4x64x64, .f32⟩
  | 114 => ⟨S8x17x4x4x64x64, .f32⟩
  | 115 => ⟨S8x4x4x16x1, .f32⟩
  | 116 => ⟨S8x4x4x16, .f32⟩
  | 117 => ⟨S_, .i32⟩
  | 118 => ⟨S_, .f32⟩
  | 119 => ⟨S8x4x4x17, .f32⟩
  | 120 => ⟨S8x4x4x17x1, .f32⟩
  | 121 => ⟨S8x4x4x17x17, .f32⟩
  | 122 => ⟨S_, .i1⟩
  | 123 => ⟨S17x17, .i1⟩
  | 124 => ⟨S17x17, .i32⟩
  | 125 => ⟨S_, .i32⟩
  | 126 => ⟨S17x17, .i32⟩
  | 127 => ⟨S17x17, .i32⟩
  | _ => ⟨S8x16x1024x128, .bf16⟩

abbrev hbmTy0_1 (i : Nat) : BufTy := match i % 128 with
  | 0 => ⟨S17x17, .i32⟩
  | 1 => ⟨S17x17, .i1⟩
  | 2 => ⟨S_, .i1⟩
  | 3 => ⟨S17x17, .i1⟩
  | 4 => ⟨S17x17, .i1⟩
  | 5 => ⟨S_, .f32⟩
  | 6 => ⟨S_, .f32⟩
  | 7 => ⟨S8x4x4x17x17, .i1⟩
  | 8 => ⟨S8x4x4x17x17, .f32⟩
  | 9 => ⟨S8x4x4x17x17, .f32⟩
  | 10 => ⟨S_, .f32⟩
  | 11 => ⟨S_, .f32⟩
  | 12 => ⟨S8x4x4x17x17, .f32⟩
  | 13 => ⟨S_, .i1⟩
  | 14 => ⟨S17x17, .i1⟩
  | 15 => ⟨S17x17, .i32⟩
  | 16 => ⟨S_, .i32⟩
  | 17 => ⟨S17x17, .i32⟩
  | 18 => ⟨S17x17, .i32⟩
  | 19 => ⟨S17x17, .i32⟩
  | 20 => ⟨S17x17, .i1⟩
  | 21 => ⟨S_, .i1⟩
  | 22 => ⟨S17x17, .i1⟩
  | 23 => ⟨S17x17, .i1⟩
  | 24 => ⟨S_, .f32⟩
  | 25 => ⟨S_, .f32⟩
  | 26 => ⟨S8x4x4x17x17, .i1⟩
  | 27 => ⟨S8x4x4x17x17, .f32⟩
  | 28 => ⟨S8x4x4x17x17, .f32⟩
  | 29 => ⟨S8x4x4x17x17, .f32⟩
  | 30 => ⟨S8x4x4x64x64x17, .f32⟩
  | 31 => ⟨S8x17x4x4x64x64, .f32⟩
  | 32 => ⟨S8x16x4x4x64x64, .f32⟩
  | 33 => ⟨S8x16x4x4x64x128, .f32⟩
  | 34 => ⟨S8x16x128x4x4x64, .f32⟩
  | 35 => ⟨S8x4x4x16x128, .f32⟩
  | 36 => ⟨S8x16x128x4x4, .f32⟩
  | 37 => ⟨S8x16x128x4x4x1, .f32⟩
  | 38 => ⟨S8x16x128x4x4x64, .f32⟩
  | 39 => ⟨S8x16x128x4x4x64, .f32⟩
  | 40 => ⟨S8x16x128x4x4x64, .f32⟩
  | 41 => ⟨S8x2048x16x64, .f32⟩
  | 42 => ⟨S16, .f32⟩
  | 43 => ⟨S16x1, .f32⟩
  | 44 => ⟨S1x1x16x1, .f32⟩
  | 45 => ⟨S8x2048x16x64, .f32⟩
  | 46 => ⟨S8x2048x16x64, .f32⟩
  | 47 => ⟨S8x2048x16x64, .f32⟩
  | 48 => ⟨S8x2048x1024, .f32⟩
  | 49 => ⟨S1024, .f32⟩
  | 50 => ⟨S8x2048x1024, .f32⟩
  | 51 => ⟨S8x2048x1024, .f32⟩
  | 52 => ⟨S_, .f32⟩
  | 53 => ⟨S8x2048x1024, .f32⟩
  | 54 => ⟨S8x2048x1024, .f32⟩
  | 55 => ⟨S_, .f32⟩
  | 56 => ⟨S8x2048x1024, .f32⟩
  | 57 => ⟨S8x2048x1024, .f32⟩
  | 58 => ⟨S8x2048x1024, .f32⟩
  | 59 => ⟨S8x2048x1024, .f32⟩
  | 60 => ⟨S8x2048x4x256, .f32⟩
  | 61 => ⟨S8x2048x4x256, .f32⟩
  | 62 => ⟨S_, .f32⟩
  | 63 => ⟨S8x2048x4, .f32⟩
  | 64 => ⟨S8x2048x4x1, .f32⟩
  | 65 => ⟨S_, .f32⟩
  | 66 => ⟨S8x2048x4x1, .f32⟩
  | 67 => ⟨S8x2048x4x1, .f32⟩
  | 68 => ⟨S_, .f32⟩
  | 69 => ⟨S8x2048x4x1, .f32⟩
  | 70 => ⟨S8x2048x4x1, .f32⟩
  | 71 => ⟨S8x2048x4x1, .f32⟩
  | 72 => ⟨S8x2048x4x256, .f32⟩
  | 73 => ⟨S8x2048x4x256, .f32⟩
  | 74 => ⟨S8x2048x1024, .f32⟩
  | 75 => ⟨S1x1x1024, .f32⟩
  | 76 => ⟨S8x2048x1024, .f32⟩
  | 77 => ⟨S8x2048x1024, .f32⟩
  | 78 => ⟨S8x16x128x1024, .f32⟩
  | 79 => ⟨S8x16x1024x128, .f32⟩
  | 80 => ⟨S8x16x1024x128, .bf16⟩
  | _ => ⟨S8x16x1024x128, .bf16⟩

abbrev hbmTy (i : Nat) : BufTy := match i / 128 with
  | 0 => hbmTy0_0 i
  | 1 => hbmTy0_1 i
  | _ => ⟨S8x16x1024x128, .bf16⟩

abbrev bufTy : (tb : Table) → Fin (tcTables nBuf tb) → BufTy
  | .hbm, ⟨i, _⟩ => hbmTy i
  | _, _ => ⟨S8x16x1024x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_call1_call0_cst : Ref sig .tc := ⟨.hbm, 54, rfl⟩
abbrev main_call1_call0_v0 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c : Ref sig .tc := ⟨.hbm, 59, rfl⟩
abbrev main_v36 : Ref sig .tc := ⟨.hbm, 60, rfl⟩
abbrev main_call2_v0 : Ref sig .tc := ⟨.hbm, 61, rfl⟩
abbrev main_call2_c : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_c_0 : Ref sig .tc := ⟨.hbm, 67, rfl⟩
abbrev main_call2_v5 : Ref sig .tc := ⟨.hbm, 68, rfl⟩
abbrev main_v37 : Ref sig .tc := ⟨.hbm, 69, rfl⟩
abbrev main_cst : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_v38 : Ref sig .tc := ⟨.hbm, 74, rfl⟩
abbrev main_call4_call0_cst : Ref sig .tc := ⟨.hbm, 75, rfl⟩
abbrev main_call4_call0_v0 : Ref sig .tc := ⟨.hbm, 76, rfl⟩
abbrev main_v39 : Ref sig .tc := ⟨.hbm, 77, rfl⟩
abbrev main_c_0 : Ref sig .tc := ⟨.hbm, 78, rfl⟩
abbrev main_v40 : Ref sig .tc := ⟨.hbm, 79, rfl⟩
abbrev main_call5_v0 : Ref sig .tc := ⟨.hbm, 80, rfl⟩
abbrev main_call5_c : Ref sig .tc := ⟨.hbm, 81, rfl⟩
abbrev main_call5_v1 : Ref sig .tc := ⟨.hbm, 82, rfl⟩
abbrev main_call5_v2 : Ref sig .tc := ⟨.hbm, 83, rfl⟩
abbrev main_call5_v3 : Ref sig .tc := ⟨.hbm, 84, rfl⟩
abbrev main_call5_v4 : Ref sig .tc := ⟨.hbm, 85, rfl⟩
abbrev main_call5_c_0 : Ref sig .tc := ⟨.hbm, 86, rfl⟩
abbrev main_call5_v5 : Ref sig .tc := ⟨.hbm, 87, rfl⟩
abbrev main_v41 : Ref sig .tc := ⟨.hbm, 88, rfl⟩
abbrev main_cst_1 : Ref sig .tc := ⟨.hbm, 89, rfl⟩
abbrev main_call6_v0 : Ref sig .tc := ⟨.hbm, 90, rfl⟩
abbrev main_call6_v1 : Ref sig .tc := ⟨.hbm, 91, rfl⟩
abbrev main_call6_v2 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_cst_2 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_c_3 : Ref sig .tc := ⟨.hbm, 117, rfl⟩
abbrev main_call7_v0 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_c_4 : Ref sig .tc := ⟨.hbm, 122, rfl⟩
abbrev main_v68 : Ref sig .tc := ⟨.hbm, 123, rfl⟩
abbrev main_call8_v0 : Ref sig .tc := ⟨.hbm, 124, rfl⟩
abbrev main_call8_c : Ref sig .tc := ⟨.hbm, 125, rfl⟩
abbrev main_call8_v1 : Ref sig .tc := ⟨.hbm, 126, rfl⟩
abbrev main_call8_v2 : Ref sig .tc := ⟨.hbm, 127, rfl⟩
abbrev main_call8_v3 : Ref sig .tc := ⟨.hbm, 128, rfl⟩
abbrev main_call8_v4 : Ref sig .tc := ⟨.hbm, 129, rfl⟩
abbrev main_call8_c_0 : Ref sig .tc := ⟨.hbm, 130, rfl⟩
abbrev main_call8_v5 : Ref sig .tc := ⟨.hbm, 131, rfl⟩
abbrev main_v69 : Ref sig .tc := ⟨.hbm, 132, rfl⟩
abbrev main_cst_5 : Ref sig .tc := ⟨.hbm, 133, rfl⟩
abbrev main_call9_v0 : Ref sig .tc := ⟨.hbm, 134, rfl⟩
abbrev main_call9_v1 : Ref sig .tc := ⟨.hbm, 135, rfl⟩
abbrev main_call9_v2 : Ref sig .tc := ⟨.hbm, 136, rfl⟩
abbrev main_v70 : Ref sig .tc := ⟨.hbm, 137, rfl⟩
abbrev main_call10_call0_cst : Ref sig .tc := ⟨.hbm, 138, rfl⟩
abbrev main_call10_call0_v0 : Ref sig .tc := ⟨.hbm, 139, rfl⟩
abbrev main_v71 : Ref sig .tc := ⟨.hbm, 140, rfl⟩
abbrev main_c_6 : Ref sig .tc := ⟨.hbm, 141, rfl⟩
abbrev main_v72 : Ref sig .tc := ⟨.hbm, 142, rfl⟩
abbrev main_call11_v0 : Ref sig .tc := ⟨.hbm, 143, rfl⟩
abbrev main_call11_c : Ref sig .tc := ⟨.hbm, 144, rfl⟩
abbrev main_call11_v1 : Ref sig .tc := ⟨.hbm, 145, rfl⟩
abbrev main_call11_v2 : Ref sig .tc := ⟨.hbm, 146, rfl⟩
abbrev main_call11_v3 : Ref sig .tc := ⟨.hbm, 147, rfl⟩
abbrev main_call11_v4 : Ref sig .tc := ⟨.hbm, 148, rfl⟩
abbrev main_call11_c_0 : Ref sig .tc := ⟨.hbm, 149, rfl⟩
abbrev main_call11_v5 : Ref sig .tc := ⟨.hbm, 150, rfl⟩
abbrev main_v73 : Ref sig .tc := ⟨.hbm, 151, rfl⟩
abbrev main_cst_7 : Ref sig .tc := ⟨.hbm, 152, rfl⟩
abbrev main_call12_v0 : Ref sig .tc := ⟨.hbm, 153, rfl⟩
abbrev main_call12_v1 : Ref sig .tc := ⟨.hbm, 154, rfl⟩
abbrev main_call12_v2 : Ref sig .tc := ⟨.hbm, 155, rfl⟩
abbrev main_v74 : Ref sig .tc := ⟨.hbm, 156, rfl⟩
abbrev main_v75 : Ref sig .tc := ⟨.hbm, 157, rfl⟩
abbrev main_v76 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_v80 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_v91 : Ref sig .tc := ⟨.hbm, 173, rfl⟩
abbrev main_v92 : Ref sig .tc := ⟨.hbm, 174, rfl⟩
abbrev main_v93 : Ref sig .tc := ⟨.hbm, 175, rfl⟩
abbrev main_v94 : Ref sig .tc := ⟨.hbm, 176, rfl⟩
abbrev main_v95 : Ref sig .tc := ⟨.hbm, 177, rfl⟩
abbrev main_call13_v0 : Ref sig .tc := ⟨.hbm, 178, rfl⟩
abbrev main_call13_v1 : Ref sig .tc := ⟨.hbm, 179, rfl⟩
abbrev main_call13_cst : Ref sig .tc := ⟨.hbm, 180, rfl⟩
abbrev main_call13_v2 : Ref sig .tc := ⟨.hbm, 181, rfl⟩
abbrev main_call13_v3 : Ref sig .tc := ⟨.hbm, 182, rfl⟩
abbrev main_call13_cst_0 : Ref sig .tc := ⟨.hbm, 183, rfl⟩
abbrev main_call13_v4 : Ref sig .tc := ⟨.hbm, 184, rfl⟩
abbrev main_call13_v5 : Ref sig .tc := ⟨.hbm, 185, rfl⟩
abbrev main_v96 : Ref sig .tc := ⟨.hbm, 186, rfl⟩
abbrev main_v97 : Ref sig .tc := ⟨.hbm, 187, rfl⟩
abbrev main_v98 : Ref sig .tc := ⟨.hbm, 188, rfl⟩
abbrev main_v99 : Ref sig .tc := ⟨.hbm, 189, rfl⟩
abbrev main_cst_8 : Ref sig .tc := ⟨.hbm, 190, rfl⟩
abbrev main_v100 : Ref sig .tc := ⟨.hbm, 191, rfl⟩
abbrev main_v101 : Ref sig .tc := ⟨.hbm, 192, rfl⟩
abbrev main_cst_9 : Ref sig .tc := ⟨.hbm, 193, rfl⟩
abbrev main_v102 : Ref sig .tc := ⟨.hbm, 194, rfl⟩
abbrev main_v103 : Ref sig .tc := ⟨.hbm, 195, rfl⟩
abbrev main_cst_10 : Ref sig .tc := ⟨.hbm, 196, rfl⟩
abbrev main_v104 : Ref sig .tc := ⟨.hbm, 197, rfl⟩
abbrev main_v105 : Ref sig .tc := ⟨.hbm, 198, rfl⟩
abbrev main_v106 : Ref sig .tc := ⟨.hbm, 199, rfl⟩
abbrev main_v107 : Ref sig .tc := ⟨.hbm, 200, rfl⟩
abbrev main_v108 : Ref sig .tc := ⟨.hbm, 201, rfl⟩
abbrev main_v109 : Ref sig .tc := ⟨.hbm, 202, rfl⟩
abbrev main_v110 : Ref sig .tc := ⟨.hbm, 203, rfl⟩
abbrev main_v111 : Ref sig .tc := ⟨.hbm, 204, rfl⟩
abbrev main_v112 : Ref sig .tc := ⟨.hbm, 205, rfl⟩
abbrev main_v113 : Ref sig .tc := ⟨.hbm, 206, rfl⟩
abbrev main_v114 : Ref sig .tc := ⟨.hbm, 207, rfl⟩
abbrev main_v115 : Ref sig .tc := ⟨.hbm, 208, rfl⟩

abbrev nD : Nat := 1
abbrev τ : Topo := Topo.v7x

variable {F : FTy → Type} [FloatOps F]
-- ==== Merge.lean ====
abbrev S8x2048x1024 : Shape := ⟨3, ![8, 2048, 1024]⟩
abbrev S8x2048x512 : Shape := ⟨3, ![8, 2048, 512]⟩
abbrev S8x16x1024x128 : Shape := ⟨4, ![8, 16, 1024, 128]⟩
abbrev S8x2048x2048 : Shape := ⟨3, ![8, 2048, 2048]⟩
abbrev S1x2048 : Shape := ⟨2, ![1, 2048]⟩
abbrev S1x512x1024 : Shape := ⟨3, ![1, 512, 1024]⟩
abbrev S1x1024x1024 : Shape := ⟨3, ![1, 1024, 1024]⟩
abbrev S1024 : Shape := ⟨1, ![1024]⟩
abbrev S2048 : Shape := ⟨1, ![2048]⟩
abbrev S512x1024 : Shape := ⟨2, ![512, 1024]⟩
abbrev S1024x1024 : Shape := ⟨2, ![1024, 1024]⟩
abbrev S1x1024 : Shape := ⟨2, ![1, 1024]⟩
abbrev S1x512x512 : Shape := ⟨3, ![1, 512, 512]⟩
abbrev S1x4x1024x128 : Shape := ⟨4, ![1, 4, 1024, 128]⟩
abbrev S1x512x2048 : Shape := ⟨3, ![1, 512, 2048]⟩
abbrev S512x2048 : Shape := ⟨2, ![512, 2048]⟩
abbrev S1x1x1024x128 : Shape := ⟨4, ![1, 1, 1024, 128]⟩
abbrev S1024x128 : Shape := ⟨2, ![1024, 128]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩

abbrev nBuf : Space → Nat
  | .hbm => 19
  | .vmem => 15
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x16x1024x128, .bf16⟩
  | .hbm, ⟨3, _⟩ => ⟨S8x2048x2048, .bf16⟩
  | .hbm, ⟨4, _⟩ => ⟨S1x2048, .f32⟩
  | .hbm, ⟨5, _⟩ => ⟨S1x512x1024, .f32⟩
  | .hbm, ⟨6, _⟩ => ⟨S1x1024x1024, .f32⟩
  | .hbm, ⟨7, _⟩ => ⟨S1x1024x1024, .f32⟩
  | .hbm, ⟨8, _⟩ => ⟨S1024, .f32⟩
  | .hbm, ⟨9, _⟩ => ⟨S2048, .f32⟩
  | .hbm, ⟨10, _⟩ => ⟨S1x2048, .f32⟩
  | .hbm, ⟨11, _⟩ => ⟨S512x1024, .f32⟩
  | .hbm, ⟨12, _⟩ => ⟨S512x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S1x1024, .f32⟩
  | .hbm, ⟨18, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x4x1024x128, .bf16⟩
  | .local _ .vmem, ⟨5, _⟩ => ⟨S1x4x1024x128, .bf16⟩
  | .local _ .vmem, ⟨6, _⟩ => ⟨S1x512x2048, .bf16⟩
  | .local _ .vmem, ⟨7, _⟩ => ⟨S1x512x2048, .bf16⟩
  | .local _ .vmem, ⟨8, _⟩ => ⟨S1x2048, .f32⟩
  | .local _ .vmem, ⟨9, _⟩ => ⟨S512x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1x512x1024, .f32⟩
  | .local _ .vmem, ⟨14, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeRefIdeal.lean ====
abbrev S8x2048x1024 : Shape := ⟨3, ![8, 2048, 1024]⟩
abbrev S8x2048x512 : Shape := ⟨3, ![8, 2048, 512]⟩
abbrev S8x16x1024x128 : Shape := ⟨4, ![8, 16, 1024, 128]⟩
abbrev S8x2048x2048 : Shape := ⟨3, ![8, 2048, 2048]⟩
abbrev S1x2048 : Shape := ⟨2, ![1, 2048]⟩
abbrev S1x512x1024 : Shape := ⟨3, ![1, 512, 1024]⟩
abbrev S1x1024x1024 : Shape := ⟨3, ![1, 1024, 1024]⟩
abbrev S1024 : Shape := ⟨1, ![1024]⟩
abbrev S8x16x128x1024 : Shape := ⟨4, ![8, 16, 128, 1024]⟩
abbrev S2048 : Shape := ⟨1, ![2048]⟩
abbrev S1x1x2048 : Shape := ⟨3, ![1, 1, 2048]⟩
abbrev S_ : Shape := ⟨0, ![]⟩
abbrev S512x1024 : Shape := ⟨2, ![512, 1024]⟩
abbrev S1024x1024 : Shape := ⟨2, ![1024, 1024]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x16x1024x128, .bf16⟩
  | .hbm, ⟨3, _⟩ => ⟨S8x2048x2048, .bf16⟩
  | .hbm, ⟨4, _⟩ => ⟨S1x2048, .f32⟩
  | .hbm, ⟨5, _⟩ => ⟨S1x512x1024, .f32⟩
  | .hbm, ⟨6, _⟩ => ⟨S1x1024x1024, .f32⟩
  | .hbm, ⟨7, _⟩ => ⟨S1x1024x1024, .f32⟩
  | .hbm, ⟨8, _⟩ => ⟨S1024, .f32⟩
  | .hbm, ⟨9, _⟩ => ⟨S8x2048x512, .f32⟩
  | .hbm, ⟨10, _⟩ => ⟨S8x16x1024x128, .f32⟩
  | .hbm, ⟨11, _⟩ => ⟨S8x16x128x1024, .f32⟩
  | .hbm, ⟨12, _⟩ => ⟨S8x2048x1024, .f32⟩
  | .hbm, ⟨13, _⟩ => ⟨S8x2048x2048, .f32⟩
  | .hbm, ⟨14, _⟩ => ⟨S2048, .f32⟩
  | .hbm, ⟨15, _⟩ => ⟨S1x1x2048, .f32⟩
  | .hbm, ⟨16, _⟩ => ⟨S8x2048x2048, .f32⟩
  | .hbm, ⟨17, _⟩ => ⟨S8x2048x2048, .f32⟩
  | .hbm, ⟨18, _⟩ => ⟨S8x2048x2048, .f32⟩
  | .hbm, ⟨19, _⟩ => ⟨S8x2048x2048, .f32⟩
  | .hbm, ⟨20, _⟩ => ⟨S_, .f32⟩
  | .hbm, ⟨21, _⟩ => ⟨S8x2048x2048, .f32⟩
  | .hbm, ⟨22, _⟩ => ⟨S8x2048x2048, .f32⟩
  | .hbm, ⟨23, _⟩ => ⟨S_, .f32⟩
  | .hbm, ⟨24, _⟩ => ⟨S8x2048x2048, .f32⟩
  | .hbm, ⟨25, _⟩ => ⟨S8x2048x2048, .f32⟩
  | .hbm, ⟨26, _⟩ => ⟨S8x2048x1024, .f32⟩
  | .hbm, ⟨27, _⟩ => ⟨S8x2048x1024, .f32⟩
  | .hbm, ⟨28, _⟩ => ⟨S512x1024, .f32⟩
  | .hbm, ⟨29, _⟩ => ⟨S8x2048x1024, .f32⟩
  | .hbm, ⟨30, _⟩ => ⟨S8x2048x1024, .f32⟩
  | .hbm, ⟨31, _⟩ => ⟨S1024x1024, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S1024x1024, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S_, .f32⟩
  | .hbm, ⟨40, _⟩ => ⟨S8x2048, .f32⟩
  | .hbm, ⟨41, _⟩ => ⟨S8x2048x1, .f32⟩
  | .hbm, ⟨42, _⟩ => ⟨S_, .f32⟩
  | .hbm, ⟨43, _⟩ => ⟨S8x2048x1, .f32⟩
  | .hbm, ⟨44, _⟩ => ⟨S8x2048x1, .f32⟩
  | .hbm, ⟨45, _⟩ => ⟨S_, .f32⟩
  | .hbm, ⟨46, _⟩ => ⟨S8x2048x1, .f32⟩
  | .hbm, ⟨47, _⟩ => ⟨S8x2048x1, .f32⟩
  | .hbm, ⟨48, _⟩ => ⟨S8x2048x1, .f32⟩
  | .hbm, ⟨49, _⟩ => ⟨S8x2048x1024, .f32⟩
  | .hbm, ⟨50, _⟩ => ⟨S8x2048x1024, .f32⟩
  | .hbm, ⟨51, _⟩ => ⟨S1x1x1024, .f32⟩
  | .hbm, ⟨52, _⟩ => ⟨S8x2048x1024, .f32⟩
  | .hbm, ⟨53, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_1 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== ProjAttn.lean ====
abbrev S8x2048x1024 : Shape := ⟨3, ![8, 2048, 1024]⟩
abbrev S8x2048 : Shape := ⟨2, ![8, 2048]⟩
abbrev S1x1024 : Shape := ⟨2, ![1, 1024]⟩
abbrev S1x1024x6228 : Shape := ⟨3, ![1, 1024, 6228]⟩
abbrev S8 : Shape := ⟨1, ![8]⟩
abbrev S_ : Shape := ⟨0, ![]⟩
abbrev S8x2048x1 : Shape := ⟨3, ![8, 2048, 1]⟩
abbrev S1x1x8 : Shape := ⟨3, ![1, 1, 8]⟩
abbrev S8x2048x8 : Shape := ⟨3, ![8, 2048, 8]⟩
abbrev S8x8x2048 : Shape := ⟨3, ![8, 8, 2048]⟩
abbrev S1024 : Shape := ⟨1, ![1024]⟩
abbrev S1x6228x1024 : Shape := ⟨3, ![1, 6228, 1024]⟩
abbrev S6228x1024 : Shape := ⟨2, ![6228, 1024]⟩
abbrev S512x1024 : Shape := ⟨2, ![512, 1024]⟩
abbrev S128x1024 : Shape := ⟨2, ![128, 1024]⟩
abbrev S256x1024 : Shape := ⟨2, ![256, 1024]⟩
abbrev S64x1024 : Shape := ⟨2, ![64, 1024]⟩
abbrev S4x1024 : Shape := ⟨2, ![4, 1024]⟩
abbrev S16x1024 : Shape := ⟨2, ![16, 1024]⟩
abbrev S8x1024 : Shape := ⟨2, ![8, 1024]⟩
abbrev S88x1024 : Shape := ⟨2, ![88, 1024]⟩
abbrev S1152x1024 : Shape := ⟨2, ![1152, 1024]⟩
abbrev S8x512x2048 : Shape := ⟨3, ![8, 512, 2048]⟩
abbrev S8x256x2048 : Shape := ⟨3, ![8, 256, 2048]⟩
abbrev S8x16x2048 : Shape := ⟨3, ![8, 16, 2048]⟩
abbrev S8x160x2048 : Shape := ⟨3, ![8, 160, 2048]⟩
abbrev S8x2048x128 : Shape := ⟨3, ![8, 2048, 128]⟩
abbrev S8x2048x64 : Shape := ⟨3, ![8, 2048, 64]⟩
abbrev S1x512x1024 : Shape := ⟨3, ![1, 512, 1024]⟩
abbrev S1x8x512 : Shape := ⟨3, ![1, 8, 512]⟩
abbrev S1x512x512 : Shape := ⟨3, ![1, 512, 512]⟩
abbrev S1x256x512 : Shape := ⟨3, ![1, 256, 512]⟩
abbrev S1x16x512 : Shape := ⟨3, ![1, 16, 512]⟩
abbrev S1x160x512 : Shape := ⟨3, ![1, 160, 512]⟩
abbrev S1x512x128 : Shape := ⟨3, ![1, 512, 128]⟩
abbrev S1x512x64 : Shape := ⟨3, ![1, 512, 64]⟩
abbrev S512 : Shape := ⟨1, ![512]⟩
abbrev S512x1 : Shape := ⟨2, ![512, 1]⟩
abbrev S1152x512 : Shape := ⟨2, ![1152, 512]⟩
abbrev S8x512 : Shape := ⟨2, ![8, 512]⟩
abbrev S512x512 : Shape := ⟨2, ![512, 512]⟩
abbrev S16x512 : Shape := ⟨2, ![16, 512]⟩
abbrev S256x512 : Shape := ⟨2, ![256, 512]⟩
abbrev S64x512 : Shape := ⟨2, ![64, 512]⟩
abbrev S1x64x512 : Shape := ⟨3, ![1, 64, 512]⟩
abbrev S128x512 : Shape := ⟨2, ![128, 512]⟩
abbrev S48x512 : Shape := ⟨2, ![48, 512]⟩
abbrev S512x128 : Shape := ⟨2, ![512, 128]⟩
abbrev S512x64 : Shape := ⟨2, ![512, 64]⟩

abbrev nBuf : Space → Nat
  | .hbm => 54
  | .vmem => 22
  | .smem => 0
  | _ => 0

abbrev bufTy : (tb : Table) → Fin (tcTables nBuf tb) → BufTy
  | .hbm, ⟨0, _⟩ => ⟨S8x2048x1024, .f32⟩
  | .hbm, ⟨1, _⟩ => ⟨S8x2048, .i32⟩
  | .hbm, ⟨2, _⟩ => ⟨S1x1024, .f32⟩
  | .hbm, ⟨3, _⟩ => ⟨S1x1024x6228, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S8x2048, .f32⟩
  | .hbm, ⟨19, _⟩ => ⟨S8x2048x1, .f32⟩
  | .hbm, ⟨20, _⟩ => ⟨S1x1x8, .f32⟩
  | .hbm, ⟨21, _⟩ => ⟨S8x2048x8, .f32⟩
  | .hbm, ⟨22, _⟩ => ⟨S8x2048x8, .f32⟩
  | .hbm, ⟨23, _⟩ => ⟨S8x2048x8, .f32⟩
  | .hbm, ⟨24, _⟩ => ⟨S8x8x2048, .f32⟩
  | .hbm, ⟨25, _⟩ => ⟨S8x8x2048, .f32⟩
  | .hbm, ⟨26, _⟩ => ⟨S8x8x2048, .f32⟩
  | .hbm, ⟨27, _⟩ => ⟨S1024, .f32⟩
  | .hbm, ⟨28, _⟩ => ⟨S1x1024, .f32⟩
  | .hbm, ⟨29, _⟩ => ⟨S1x6228x1024, .f32⟩
  | .hbm, ⟨30, _⟩ => ⟨S6228x1024, .f32⟩
  | .hbm, ⟨31, _⟩ => ⟨S6228x1024, .bf16⟩
  | .hbm, ⟨32, _⟩ => ⟨S512x1024, .bf16⟩
  | .hbm, ⟨33, _⟩ => ⟨S128x1024, .bf16⟩
  | .hbm, ⟨34, _⟩ => ⟨S128x1024, .bf16⟩
  | .hbm, ⟨35, _⟩ => ⟨S256x1024, .bf16⟩
  | .hbm, ⟨36, _⟩ => ⟨S64x1024, .bf16⟩
  | .hbm, ⟨37, _⟩ => ⟨S4x1024, .bf16⟩
  | .hbm, ⟨38, _⟩ => ⟨S16x1024, .bf16⟩
  | .hbm, ⟨39, _⟩ => ⟨S_, .i32⟩
  | .hbm, ⟨40, _⟩ => ⟨S_, .bf16⟩
  | .hbm, ⟨41, _⟩ => ⟨S8x1024, .bf16⟩
  | .hbm, ⟨42, _⟩ => ⟨S88x1024, .bf16⟩
  | .hbm, ⟨43, _⟩ => ⟨S_, .i32⟩
  | .hbm, ⟨44, _⟩ => ⟨S_, .bf16⟩
  | .hbm, ⟨45, _⟩ => ⟨S128x1024, .bf16⟩
  | .hbm, ⟨46, _⟩ => ⟨S1152x1024, .bf16⟩
  | .hbm, ⟨47, _⟩ => ⟨S8x512x2048, .bf16⟩
  | .hbm, ⟨48, _⟩ => ⟨S8x256x2048, .bf16⟩
  | .hbm, ⟨49, _⟩ => ⟨S8x8x2048, .f32⟩
  | .hbm, ⟨50, _⟩ => ⟨S8x16x2048, .f32⟩
  | .hbm, ⟨51, _⟩ => ⟨S8x160x2048, .bf16⟩
  | .hbm, ⟨52, _⟩ => ⟨S8x2048x128, .bf16⟩
  | .hbm, ⟨53, _⟩ => ⟨S8x2048x64, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x8x512, .f32⟩
  | .local _ .vmem, ⟨4, _⟩ => ⟨S1x8x512, .f32⟩
  | .local _ .vmem, ⟨5, _⟩ => ⟨S1x8x512, .f32⟩
  | .local _ .vmem, ⟨6, _⟩ => ⟨S1x8x512, .f32⟩
  | .local _ .vmem, ⟨7, _⟩ => ⟨S1152x1024, .bf16⟩
  | .local _ .vmem, ⟨8, _⟩ => ⟨S1x512x512, .bf16⟩
  | .local _ .vmem, ⟨9, _⟩ => ⟨S1x512x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x8x512, .f32⟩
  | .local _ .vmem, ⟨13, _⟩ => ⟨S1x8x512, .f32⟩
  | .local _ .vmem, ⟨14, _⟩ => ⟨S1x16x512, .f32⟩
  | .local _ .vmem, ⟨15, _⟩ => ⟨S1x16x512, .f32⟩
  | .local _ .vmem, ⟨16, _⟩ => ⟨S1x160x512, .bf16⟩
  | .local _ .vmem, ⟨17, _⟩ => ⟨S1x160x512, .bf16⟩
  | .local _ .vmem, ⟨18, _⟩ => ⟨S1x512x128, .bf16⟩
  | .local _ .vmem, ⟨19, _⟩ => ⟨S1x512x128, .bf16⟩
  | .local _ .vmem, ⟨20, _⟩ => ⟨S1x512x64, .bf16⟩
  | .local _ .vmem, ⟨21, _⟩ => ⟨S1x512x64, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c : Ref sig .tc := ⟨.hbm, 39, rfl⟩
abbrev main_call0_v0 : Ref sig .tc := ⟨.hbm, 40, rfl⟩
abbrev main_v31 : Ref sig .tc := ⟨.hbm, 41, rfl⟩
abbrev main_v32 : Ref sig .tc := ⟨.hbm, 42, rfl⟩
abbrev main_c_3 : Ref sig .tc := ⟨.hbm, 43, rfl⟩
abbrev main_call1_v0 : Ref sig .tc := ⟨.hbm, 44, rfl⟩
abbrev main_v33 : Ref sig .tc := ⟨.hbm, 45, rfl⟩
abbrev main_v34 : Ref sig .tc := ⟨.hbm, 46, rfl⟩
abbrev main_v35_0 : Ref sig .tc := ⟨.hbm, 47, rfl⟩
abbrev main_v35_1 : Ref sig .tc := ⟨.hbm, 48, rfl⟩
abbrev main_v35_2 : Ref sig .tc := ⟨.hbm, 49, rfl⟩
abbrev main_v35_3 : Ref sig .tc := ⟨.hbm, 50, rfl⟩
abbrev main_v35_4 : Ref sig .tc := ⟨.hbm, 51, rfl⟩
abbrev main_v35_5 : Ref sig .tc := ⟨.hbm, 52, rfl⟩
abbrev main_v35_6 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1152x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x160x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ProjAttnRefIdeal.lean ====
abbrev S8x2048x1024 : Shape := ⟨3, ![8, 2048, 1024]⟩
abbrev S8x2048 : Shape := ⟨2, ![8, 2048]⟩
abbrev S1x1024 : Shape := ⟨2, ![1, 1024]⟩
abbrev S1x1024x6228 : Shape := ⟨3, ![1, 1024, 6228]⟩
abbrev S8 : Shape := ⟨1, ![8]⟩
abbrev S_ : Shape := ⟨0, ![]⟩
abbrev S8x2048x1 : Shape := ⟨3, ![8, 2048, 1]⟩
abbrev S1x1x8 : Shape := ⟨3, ![1, 1, 8]⟩
abbrev S8x2048x8 : Shape := ⟨3, ![8, 2048, 8]⟩
abbrev S8x2048x1x8 : Shape := ⟨4, ![8, 2048, 1, 8]⟩
abbrev S1024 : Shape := ⟨1, ![1024]⟩
abbrev S1x1x1024 : Shape := ⟨3, ![1, 1, 1024]⟩
abbrev S1024x6228 : Shape := ⟨2, ![1024, 6228]⟩
abbrev S8x2048x6228 : Shape := ⟨3, ![8, 2048, 6228]⟩
abbrev S8x2048x512 : Shape := ⟨3, ![8, 2048, 512]⟩
abbrev S8x2048x128 : Shape := ⟨3, ![8, 2048, 128]⟩
abbrev S8x2048x256 : Shape := ⟨3, ![8, 2048, 256]⟩
abbrev S8x2048x64 : Shape := ⟨3, ![8, 2048, 64]⟩
abbrev S8x2048x4 : Shape := ⟨3, ![8, 2048, 4]⟩
abbrev S8x2048x16 : Shape := ⟨3, ![8, 2048, 16]⟩
abbrev S8x2048x2048 : Shape := ⟨3, ![8, 2048, 2048]⟩
abbrev S8x2048x8x64 : Shape := ⟨4, ![8, 2048, 8, 64]⟩
abbrev S8x2048x8x8 : Shape := ⟨4, ![8, 2048, 8, 8]⟩
abbrev S8x2048x8x16 : Shape := ⟨4, ![8, 2048, 8, 16]⟩
abbrev S8x2048x8x48 : Shape := ⟨4, ![8, 2048, 8, 48]⟩
abbrev S8x2048x2x64 : Shape := ⟨4, ![8, 2048, 2, 64]⟩
abbrev S8x2048x2x8 : Shape := ⟨4, ![8, 2048, 2, 8]⟩
abbrev S8x2048x2x16 : Shape := ⟨4, ![8, 2048, 2, 16]⟩
abbrev S8x2048x2x48 : Shape := ⟨4, ![8, 2048, 2, 48]⟩
abbrev S8x2048x4x64 : Shape := ⟨4, ![8, 2048, 4, 64]⟩
abbrev S8x2048x4x8 : Shape := ⟨4, ![8, 2048, 4, 8]⟩
abbrev S8x2048x4x16 : Shape := ⟨4, ![8, 2048, 4, 16]⟩
abbrev S8x2048x4x48 : Shape := ⟨4, ![8, 2048, 4, 48]⟩
abbrev S8x2048x1x64 : Shape := ⟨4, ![8, 2048, 1, 64]⟩
abbrev S8x2048x1x16 : Shape := ⟨4, ![8, 2048, 1, 16]⟩
abbrev S8x2048x1x48 : Shape := ⟨4, ![8, 2048, 1, 48]⟩
abbrev S8x512x2048 : Shape := ⟨3, ![8, 512, 2048]⟩
abbrev S8x256x2048 : Shape := ⟨3, ![8, 256, 2048]⟩
abbrev S8x8x2048 : Shape := ⟨3, ![8, 8, 2048]⟩
abbrev S8x16x2048 : Shape := ⟨3, ![8, 16, 2048]⟩
abbrev S8x2048x2x80 : Shape := ⟨4, ![8, 2048, 2, 80]⟩
abbrev S8x2048x160 : Shape := ⟨3, ![8, 2048, 160]⟩
abbrev S8x160x2048 : Shape := ⟨3, ![8, 160, 2048]⟩

abbrev nBuf : Space → Nat
  | .hbm => 151
  | .vmem => 0
  | .smem => 0
  | _ => 0

abbrev hbmTy0_0 (i : Nat) : BufTy := match i % 128 with
  | 0 => ⟨S8x2048x1024, .f32⟩
  | 1 => ⟨S8x2048, .i32⟩
  | 2 => ⟨S1x1024, .f32⟩
  | 3 => ⟨S1x1024x6228, .f32⟩
  | 4 => ⟨S8, .f32⟩
  | 5 => ⟨S_, .f32⟩
  | 6 => ⟨S8, .f32⟩
  | 7 => ⟨S8, .f32⟩
  | 8 => ⟨S_, .f32⟩
  | 9 => ⟨S8, .f32⟩
  | 10 => ⟨S8, .f32⟩
  | 11 => ⟨S8, .f32⟩
  | 12 => ⟨S_, .f32⟩
  | 13 => ⟨S8, .f32⟩
  | 14 => ⟨S8, .f32⟩
  | 15 => ⟨S_, .f32⟩
  | 16 => ⟨S8, .f32⟩
  | 17 => ⟨S8, .f32⟩
  | 18 => ⟨S8x2048, .f32⟩
  | 19 => ⟨S8x2048x1, .f32⟩
  | 20 => ⟨S1x1x8, .f32⟩
  | 21 => ⟨S8x2048x8, .f32⟩
  | 22 => ⟨S8x2048x8, .f32⟩
  | 23 => ⟨S8x2048x8, .f32⟩
  | 24 => ⟨S8x2048x8, .f32⟩
  | 25 => ⟨S8x2048x1x8, .f32⟩
  | 26 => ⟨S8x2048x8, .f32⟩
  | 27 => ⟨S8x2048x1x8, .f32⟩
  | 28 => ⟨S1024, .f32⟩
  | 29 => ⟨S8x2048x1024, .f32⟩
  | 30 => ⟨S_, .f32⟩
  | 31 => ⟨S8x2048, .f32⟩
  | 32 => ⟨S8x2048x1, .f32⟩
  | 33 => ⟨S_, .f32⟩
  | 34 => ⟨S8x2048x1, .f32⟩
  | 35 => ⟨S8x2048x1, .f32⟩
  | 36 => ⟨S_, .f32⟩
  | 37 => ⟨S8x2048x1, .f32⟩
  | 38 => ⟨S8x2048x1, .f32⟩
  | 39 => ⟨S8x2048x1, .f32⟩
  | 40 => ⟨S8x2048x1024, .f32⟩
  | 41 => ⟨S8x2048x1024, .f32⟩
  | 42 => ⟨S1x1x1024, .f32⟩
  | 43 => ⟨S8x2048x1024, .f32⟩
  | 44 => ⟨S8x2048x1024, .f32⟩
  | 45 => ⟨S1024x6228, .f32⟩
  | 46 => ⟨S8x2048x6228, .f32⟩
  | 47 => ⟨S8x2048x512, .f32⟩
  | 48 => ⟨S8x2048x128, .f32⟩
  | 49 => ⟨S8x2048x128, .f32⟩
  | 50 => ⟨S8x2048x512, .f32⟩
  | 51 => ⟨S8x2048x256, .f32⟩
  | 52 => ⟨S8x2048x64, .f32⟩
  | 53 => ⟨S8x2048x4, .f32⟩
  | 54 => ⟨S8x2048x1024, .f32⟩
  | 55 => ⟨S8x2048x1024, .f32⟩
  | 56 => ⟨S8x2048x256, .f32⟩
  | 57 => ⟨S8x2048x256, .f32⟩
  | 58 => ⟨S8x2048x16, .f32⟩
  | 59 => ⟨S8x2048x2048, .f32⟩
  | 60 => ⟨S8x2048x8x64, .f32⟩
  | 61 => ⟨S8x2048x8x8, .f32⟩
  | 62 => ⟨S8x2048x8x8, .f32⟩
  | 63 => ⟨S8x2048x8x8, .f32⟩
  | 64 => ⟨S8x2048x8x8, .f32⟩
  | 65 => ⟨S8x2048x8x8, .f32⟩
  | 66 => ⟨S8x2048x8x8, .f32⟩
  | 67 => ⟨S8x2048x8x8, .f32⟩
  | 68 => ⟨S8x2048x8x8, .f32⟩
  | 69 => ⟨S8x2048x8x8, .f32⟩
  | 70 => ⟨S8x2048x8x8, .f32⟩
  | 71 => ⟨S8x2048x8x8, .f32⟩
  | 72 => ⟨S8x2048x8x8, .f32⟩
  | 73 => ⟨S8x2048x8x16, .f32⟩
  | 74 => ⟨S8x2048x8x48, .f32⟩
  | 75 => ⟨S8x2048x8x64, .f32⟩
  | 76 => ⟨S8x2048x2x64, .f32⟩
  | 77 => ⟨S8x2048x2x8, .f32⟩
  | 78 => ⟨S8x2048x2x8, .f32⟩
  | 79 => ⟨S8x2048x2x8, .f32⟩
  | 80 => ⟨S8x2048x2x8, .f32⟩
  | 81 => ⟨S8x2048x2x8, .f32⟩
  | 82 => ⟨S8x2048x2x8, .f32⟩
  | 83 => ⟨S8x2048x2x8, .f32⟩
  | 84 => ⟨S8x2048x2x8, .f32⟩
  | 85 => ⟨S8x2048x2x8, .f32⟩
  | 86 => ⟨S8x2048x2x8, .f32⟩
  | 87 => ⟨S8x2048x2x8, .f32⟩
  | 88 => ⟨S8x2048x2x8, .f32⟩
  | 89 => ⟨S8x2048x2x16, .f32⟩
  | 90 => ⟨S8x2048x2x48, .f32⟩
  | 91 => ⟨S8x2048x2x64, .f32⟩
  | 92 => ⟨S8x2048x2x64, .f32⟩
  | 93 => ⟨S8x2048x4x64, .f32⟩
  | 94 => ⟨S8x2048x4x8, .f32⟩
  | 95 => ⟨S8x2048x4x8, .f32⟩
  | 96 => ⟨S8x2048x4x8, .f32⟩
  | 97 => ⟨S8x2048x4x8, .f32⟩
  | 98 => ⟨S8x2048x4x8, .f32⟩
  | 99 => ⟨S8x2048x4x8, .f32⟩
  | 100 => ⟨S8x2048x4x8, .f32⟩
  | 101 => ⟨S8x2048x4x8, .f32⟩
  | 102 => ⟨S8x2048x4x8, .f32⟩
  | 103 => ⟨S8x2048x4x8, .f32⟩
  | 104 => ⟨S8x2048x4x8, .f32⟩
  | 105 => ⟨S8x2048x4x8, .f32⟩
  | 106 => ⟨S8x2048x4x16, .f32⟩
  | 107 => ⟨S8x2048x4x48, .f32⟩
  | 108 => ⟨S8x2048x4x64, .f32⟩
  | 109 => ⟨S8x2048x1x64, .f32⟩
  | 110 => ⟨S8x2048x1x8, .f32⟩
  | 111 => ⟨S8x2048x1x8, .f32⟩
  | 112 => ⟨S8x2048x1x8, .f32⟩
  | 113 => ⟨S8x2048x1x8, .f32⟩
  | 114 => ⟨S8x2048x1x8, .f32⟩
  | 115 => ⟨S8x2048x1x8, .f32⟩
  | 116 => ⟨S8x2048x1x8, .f32⟩
  | 117 => ⟨S8x2048x1x8, .f32⟩
  | 118 => ⟨S8x2048x1x16, .f32⟩
  | 119 => ⟨S8x2048x1x48, .f32⟩
  | 120 => ⟨S8x2048x1x64, .f32⟩
  | 121 => ⟨S8x2048x64, .f32⟩
  | 122 => ⟨S_, .f32⟩
  | 123 => ⟨S8x2048x2x16, .f32⟩
  | 124 => ⟨S_, .f32⟩
  | 125 => ⟨S8x2048x8x64, .f32⟩
  | 126 => ⟨S8x2048x8x64, .f32⟩
  | 127 => ⟨S8x2048x512, .f32⟩
  | _ => ⟨S8x2048x1024, .f32⟩

abbrev hbmTy0_1 (i : Nat) : BufTy := match i % 128 with
  | 0 => ⟨S8x512x2048, .f32⟩
  | 1 => ⟨S8x512x2048, .bf16⟩
  | 2 => ⟨S_, .f32⟩
  | 3 => ⟨S8x2048x4x64, .f32⟩
  | 4 => ⟨S8x2048x4x64, .f32⟩
  | 5 => ⟨S8x2048x256, .f32⟩
  | 6 => ⟨S8x256x2048, .f32⟩
  | 7 => ⟨S8x256x2048, .bf16⟩
  | 8 => ⟨S_, .f32⟩
  | 9 => ⟨S8x2048x4, .f32⟩
  | 10 => ⟨S8x2048x4, .f32⟩
  | 11 => ⟨S_, .i32⟩
  | 12 => ⟨S_, .f32⟩
  | 13 => ⟨S8x2048x8, .f32⟩
  | 14 => ⟨S8x8x2048, .f32⟩
  | 15 => ⟨S8x16x2048, .f32⟩
  | 16 => ⟨S8x2048x2x80, .f32⟩
  | 17 => ⟨S8x2048x160, .f32⟩
  | 18 => ⟨S8x160x2048, .f32⟩
  | 19 => ⟨S8x160x2048, .bf16⟩
  | 20 => ⟨S8x2048x128, .f32⟩
  | 21 => ⟨S8x2048x128, .bf16⟩
  | 22 => ⟨S8x2048x64, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_cst_6 : Ref sig .tc := ⟨.hbm, 122, rfl⟩
abbrev main_v111 : Ref sig .tc := ⟨.hbm, 123, rfl⟩
abbrev main_cst_7 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_cst_8 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_cst_9 : Ref sig .tc := ⟨.hbm, 136, rfl⟩
abbrev main_v122 : Ref sig .tc := ⟨.hbm, 137, rfl⟩
abbrev main_v123 : Ref sig .tc := ⟨.hbm, 138, rfl⟩
abbrev main_c : Ref sig .tc := ⟨.hbm, 139, rfl⟩
abbrev main_call0_v0 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩

abbrev nD : Nat := 1
abbrev τ : Topo := Topo.v7x

variable {F : FTy → Type} [FloatOps F]
-- ==== ProjSsm.lean ====
abbrev S8x2048x1024 : Shape := ⟨3, ![8, 2048, 1024]⟩
abbrev S1x1024 : Shape := ⟨2, ![1, 1024]⟩
abbrev S1x1024x6228 : Shape := ⟨3, ![1, 1024, 6228]⟩
abbrev S1x4x1536 : Shape := ⟨3, ![1, 4, 1536]⟩
abbrev S1x1536 : Shape := ⟨2, ![1, 1536]⟩
abbrev S4x1536 : Shape := ⟨2, ![4, 1536]⟩
abbrev S4x1024 : Shape := ⟨2, ![4, 1024]⟩
abbrev S4x1024x1 : Shape := ⟨3, ![4, 1024, 1]⟩
abbrev S4x1024x128 : Shape := ⟨3, ![4, 1024, 128]⟩
abbrev S1536 : Shape := ⟨1, ![1536]⟩
abbrev S1024 : Shape := ⟨1, ![1024]⟩
abbrev S1024x1 : Shape := ⟨2, ![1024, 1]⟩
abbrev S1024x128 : Shape := ⟨2, ![1024, 128]⟩
abbrev S4x512 : Shape := ⟨2, ![4, 512]⟩
abbrev S4x512x1 : Shape := ⟨3, ![4, 512, 1]⟩
abbrev S4x512x128 : Shape := ⟨3, ![4, 512, 128]⟩
abbrev S512 : Shape := ⟨1, ![512]⟩
abbrev S512x1 : Shape := ⟨2, ![512, 1]⟩
abbrev S512x128 : Shape := ⟨2, ![512, 128]⟩
abbrev S1x6228x1024 : Shape := ⟨3, ![1, 6228, 1024]⟩
abbrev S6228x1024 : Shape := ⟨2, ![6228, 1024]⟩
abbrev S512x1024 : Shape := ⟨2, ![512, 1024]⟩
abbrev S1024x1024 : Shape := ⟨2, ![1024, 1024]⟩
abbrev S256x1024 : Shape := ⟨2, ![256, 1024]⟩
abbrev S2048x1024 : Shape := ⟨2, ![2048, 1024]⟩
abbrev S1024x2048 : Shape := ⟨2, ![1024, 2048]⟩
abbrev S1024x512 : Shape := ⟨2, ![1024, 512]⟩
abbrev S8x16x1024x128 : Shape := ⟨4, ![8, 16, 1024, 128]⟩
abbrev S8x16x512x128 : Shape := ⟨4, ![8, 16, 512, 128]⟩
abbrev S8x2048x256 : Shape := ⟨3, ![8, 2048, 256]⟩
abbrev S8x2048x2048 : Shape := ⟨3, ![8, 2048, 2048]⟩
abbrev S8x2048x512 : Shape := ⟨3, ![8, 2048, 512]⟩
abbrev S1x512x1024 : Shape := ⟨3, ![1, 512, 1024]⟩
abbrev S1x4x1024x128 : Shape := ⟨4, ![1, 4, 1024, 128]⟩
abbrev S1x4x512x128 : Shape := ⟨4, ![1, 4, 512, 128]⟩
abbrev S1x512x256 : Shape := ⟨3, ![1, 512, 256]⟩
abbrev S1x512x2048 : Shape := ⟨3, ![1, 512, 2048]⟩
abbrev S1x512x512 : Shape := ⟨3, ![1, 512, 512]⟩
abbrev S256x512 : Shape := ⟨2, ![256, 512]⟩
abbrev S256x128 : Shape := ⟨2, ![256, 128]⟩
abbrev S4x256x128 : Shape := ⟨3, ![4, 256, 128]⟩
abbrev S1x256x128 : Shape := ⟨3, ![1, 256, 128]⟩
abbrev S256x384 : Shape := ⟨2, ![256, 384]⟩
abbrev S1x1x256x128 : Shape := ⟨4, ![1, 1, 256, 128]⟩
abbrev S512x256 : Shape := ⟨2, ![512, 256]⟩
abbrev S512x2048 : Shape := ⟨2, ![512, 2048]⟩
abbrev S512x512 : Shape := ⟨2, ![512, 512]⟩

abbrev nBuf : Space → Nat
  | .hbm => 41
  | .vmem => 26
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x6228, .f32⟩
  | .hbm, ⟨3, _⟩ => ⟨S1x4x1536, .f32⟩
  | .hbm, ⟨4, _⟩ => ⟨S1x1536, .f32⟩
  | .hbm, ⟨5, _⟩ => ⟨S4x1536, .f32⟩
  | .hbm, ⟨6, _⟩ => ⟨S4x1024, .f32⟩
  | .hbm, ⟨7, _⟩ => ⟨S4x1024x1, .f32⟩
  | .hbm, ⟨8, _⟩ => ⟨S4x1024x128, .f32⟩
  | .hbm, ⟨9, _⟩ => ⟨S1536, .f32⟩
  | .hbm, ⟨10, _⟩ => ⟨S1024, .f32⟩
  | .hbm, ⟨11, _⟩ => ⟨S1024x1, .f32⟩
  | .hbm, ⟨12, _⟩ => ⟨S1024x128, .f32⟩
  | .hbm, ⟨13, _⟩ => ⟨S4x1536, .f32⟩
  | .hbm, ⟨14, _⟩ => ⟨S4x512, .f32⟩
  | .hbm, ⟨15, _⟩ => ⟨S4x512x1, .f32⟩
  | .hbm, ⟨16, _⟩ => ⟨S4x512x128, .f32⟩
  | .hbm, ⟨17, _⟩ => ⟨S1536, .f32⟩
  | .hbm, ⟨18, _⟩ => ⟨S512, .f32⟩
  | .hbm, ⟨19, _⟩ => ⟨S512x1, .f32⟩
  | .hbm, ⟨20, _⟩ => ⟨S512x128, .f32⟩
  | .hbm, ⟨21, _⟩ => ⟨S1024, .f32⟩
  | .hbm, ⟨22, _⟩ => ⟨S1x1024, .f32⟩
  | .hbm, ⟨23, _⟩ => ⟨S1x6228x1024, .f32⟩
  | .hbm, ⟨24, _⟩ => ⟨S6228x1024, .f32⟩
  | .hbm, ⟨25, _⟩ => ⟨S6228x1024, .bf16⟩
  | .hbm, ⟨26, _⟩ => ⟨S512x1024, .bf16⟩
  | .hbm, ⟨27, _⟩ => ⟨S1024x1024, .bf16⟩
  | .hbm, ⟨28, _⟩ => ⟨S1024x1024, .bf16⟩
  | .hbm, ⟨29, _⟩ => ⟨S256x1024, .bf16⟩
  | .hbm, ⟨30, _⟩ => ⟨S256x1024, .bf16⟩
  | .hbm, ⟨31, _⟩ => ⟨S2048x1024, .bf16⟩
  | .hbm, ⟨32, _⟩ => ⟨S512x1024, .bf16⟩
  | .hbm, ⟨33, _⟩ => ⟨S1024x2048, .bf16⟩
  | .hbm, ⟨34, _⟩ => ⟨S1024x512, .bf16⟩
  | .hbm, ⟨35, _⟩ => ⟨S8x16x1024x128, .f32⟩
  | .hbm, ⟨36, _⟩ => ⟨S8x16x1024x128, .bf16⟩
  | .hbm, ⟨37, _⟩ => ⟨S8x16x512x128, .bf16⟩
  | .hbm, ⟨38, _⟩ => ⟨S8x2048x256, .bf16⟩
  | .hbm, ⟨39, _⟩ => ⟨S8x2048x2048, .bf16⟩
  | .hbm, ⟨40, _⟩ => ⟨S8x2048x512, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S512x1024, .bf16⟩
  | .local _ .vmem, ⟨6, _⟩ => ⟨S1024x2048, .bf16⟩
  | .local _ .vmem, ⟨7, _⟩ => ⟨S1024x512, .bf16⟩
  | .local _ .vmem, ⟨8, _⟩ => ⟨S4x1024x128, .f32⟩
  | .local _ .vmem, ⟨9, _⟩ => ⟨S1024x128, .f32⟩
  | .local _ .vmem, ⟨10, _⟩ => ⟨S4x512x128, .f32⟩
  | .local _ .vmem, ⟨11, _⟩ => ⟨S512x128, .f32⟩
  | .local _ .vmem, ⟨12, _⟩ => ⟨S1x4x1024x128, .f32⟩
  | .local _ .vmem, ⟨13, _⟩ => ⟨S1x4x1024x128, .f32⟩
  | .local _ .vmem, ⟨14, _⟩ => ⟨S1x4x1024x128, .bf16⟩
  | .local _ .vmem, ⟨15, _⟩ => ⟨S1x4x1024x128, .bf16⟩
  | .local _ .vmem, ⟨16, _⟩ => ⟨S1x4x512x128, .bf16⟩
  | .local _ .vmem, ⟨17, _⟩ => ⟨S1x4x512x128, .bf16⟩
  | .local _ .vmem, ⟨18, _⟩ => ⟨S1x512x256, .bf16⟩
  | .local _ .vmem, ⟨19, _⟩ => ⟨S1x512x256, .bf16⟩
  | .local _ .vmem, ⟨20, _⟩ => ⟨S1x512x2048, .bf16⟩
  | .local _ .vmem, ⟨21, _⟩ => ⟨S1x512x2048, .bf16⟩
  | .local _ .vmem, ⟨22, _⟩ => ⟨S1x512x512, .f32⟩
  | .local _ .vmem, ⟨23, _⟩ => ⟨S1x512x512, .f32⟩
  | .local _ .vmem, ⟨24, _⟩ => ⟨S1024x128, .f32⟩
  | .local _ .vmem, ⟨25, _⟩ => ⟨S512x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30_0 : Ref sig .tc := ⟨.hbm, 35, rfl⟩
abbrev main_v30_1 : Ref sig .tc := ⟨.hbm, 36, rfl⟩
abbrev main_v30_2 : Ref sig .tc := ⟨.hbm, 37, rfl⟩
abbrev main_v30_3 : Ref sig .tc := ⟨.hbm, 38, rfl⟩
abbrev main_v30_4 : Ref sig .tc := ⟨.hbm, 39, rfl⟩
abbrev main_v30_5 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x4x1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x1024x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== ProjSsmRefIdeal.lean ====
abbrev S8x2048x1024 : Shape := ⟨3, ![8, 2048, 1024]⟩
abbrev S1x1024 : Shape := ⟨2, ![1, 1024]⟩
abbrev S1x1024x6228 : Shape := ⟨3, ![1, 1024, 6228]⟩
abbrev S1x4x1536 : Shape := ⟨3, ![1, 4, 1536]⟩
abbrev S1x1536 : Shape := ⟨2, ![1, 1536]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x6228 : Shape := ⟨2, ![1024, 6228]⟩
abbrev S8x2048x6228 : Shape := ⟨3, ![8, 2048, 6228]⟩
abbrev S8x2048x512 : Shape := ⟨3, ![8, 2048, 512]⟩
abbrev S8x2048x128 : Shape := ⟨3, ![8, 2048, 128]⟩
abbrev S8x2048x256 : Shape := ⟨3, ![8, 2048, 256]⟩
abbrev S8x2048x64 : Shape := ⟨3, ![8, 2048, 64]⟩
abbrev S8x2048x4 : Shape := ⟨3, ![8, 2048, 4]⟩
abbrev S8x2048x16 : Shape := ⟨3, ![8, 2048, 16]⟩
abbrev S8x2048x2048 : Shape := ⟨3, ![8, 2048, 2048]⟩
abbrev S8x2048x1536 : Shape := ⟨3, ![8, 2048, 1536]⟩
abbrev S4x1536 : Shape := ⟨2, ![4, 1536]⟩
abbrev S1536 : Shape := ⟨1, ![1536]⟩
abbrev S8x2051x1536 : Shape := ⟨3, ![8, 2051, 1536]⟩
abbrev S1x1x1536 : Shape := ⟨3, ![1, 1, 1536]⟩
abbrev S8x16x128x1024 : Shape := ⟨4, ![8, 16, 128, 1024]⟩
abbrev S8x16x1024x128 : Shape := ⟨4, ![8, 16, 1024, 128]⟩
abbrev S8x16x128x512 : Shape := ⟨4, ![8, 16, 128, 512]⟩
abbrev S8x16x512x128 : Shape := ⟨4, ![8, 16, 512, 128]⟩

abbrev nBuf : Space → Nat
  | .hbm => 98
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x6228, .f32⟩
  | .hbm, ⟨3, _⟩ => ⟨S1x4x1536, .f32⟩
  | .hbm, ⟨4, _⟩ => ⟨S1x1536, .f32⟩
  | .hbm, ⟨5, _⟩ => ⟨S1024, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S1024x6228, .f32⟩
  | .hbm, ⟨23, _⟩ => ⟨S8x2048x6228, .f32⟩
  | .hbm, ⟨24, _⟩ => ⟨S8x2048x512, .f32⟩
  | .hbm, ⟨25, _⟩ => ⟨S8x2048x128, .f32⟩
  | .hbm, ⟨26, _⟩ => ⟨S8x2048x128, .f32⟩
  | .hbm, ⟨27, _⟩ => ⟨S8x2048x512, .f32⟩
  | .hbm, ⟨28, _⟩ => ⟨S8x2048x256, .f32⟩
  | .hbm, ⟨29, _⟩ => ⟨S8x2048x64, .f32⟩
  | .hbm, ⟨30, _⟩ => ⟨S8x2048x4, .f32⟩
  | .hbm, ⟨31, _⟩ => ⟨S8x2048x1024, .f32⟩
  | .hbm, ⟨32, _⟩ => ⟨S8x2048x1024, .f32⟩
  | .hbm, ⟨33, _⟩ => ⟨S8x2048x256, .f32⟩
  | .hbm, ⟨34, _⟩ => ⟨S8x2048x256, .f32⟩
  | .hbm, ⟨35, _⟩ => ⟨S8x2048x16, .f32⟩
  | .hbm, ⟨36, _⟩ => ⟨S8x2048x2048, .f32⟩
  | .hbm, ⟨37, _⟩ => ⟨S8x2048x1536, .f32⟩
  | .hbm, ⟨38, _⟩ => ⟨S4x1536, .f32⟩
  | .hbm, ⟨39, _⟩ => ⟨S1536, .f32⟩
  | .hbm, ⟨40, _⟩ => ⟨S_, .i32⟩
  | .hbm, ⟨41, _⟩ => ⟨S_, .f32⟩
  | .hbm, ⟨42, _⟩ => ⟨S8x2051x1536, .f32⟩
  | .hbm, ⟨43, _⟩ => ⟨S8x2048x1536, .f32⟩
  | .hbm, ⟨44, _⟩ => ⟨S1x1536, .f32⟩
  | .hbm, ⟨45, _⟩ => ⟨S1536, .f32⟩
  | .hbm, ⟨46, _⟩ => ⟨S1x1x1536, .f32⟩
  | .hbm, ⟨47, _⟩ => ⟨S8x2048x1536, .f32⟩
  | .hbm, ⟨48, _⟩ => ⟨S8x2048x1536, .f32⟩
  | .hbm, ⟨49, _⟩ => ⟨S_, .f32⟩
  | .hbm, ⟨50, _⟩ => ⟨S8x2048x1536, .f32⟩
  | .hbm, ⟨51, _⟩ => ⟨S8x2048x1536, .f32⟩
  | .hbm, ⟨52, _⟩ => ⟨S8x2048x1536, .f32⟩
  | .hbm, ⟨53, _⟩ => ⟨S1x1536, .f32⟩
  | .hbm, ⟨54, _⟩ => ⟨S1536, .f32⟩
  | .hbm, ⟨55, _⟩ => ⟨S1x1x1536, .f32⟩
  | .hbm, ⟨56, _⟩ => ⟨S8x2048x1536, .f32⟩
  | .hbm, ⟨57, _⟩ => ⟨S8x2048x1536, .f32⟩
  | .hbm, ⟨58, _⟩ => ⟨S8x2048x1536, .f32⟩
  | .hbm, ⟨59, _⟩ => ⟨S8x2048x1536, .f32⟩
  | .hbm, ⟨60, _⟩ => ⟨S1x1536, .f32⟩
  | .hbm, ⟨61, _⟩ => ⟨S1536, .f32⟩
  | .hbm, ⟨62, _⟩ => ⟨S1x1x1536, .f32⟩
  | .hbm, ⟨63, _⟩ => ⟨S8x2048x1536, .f32⟩
  | .hbm, ⟨64, _⟩ => ⟨S8x2048x1536, .f32⟩
  | .hbm, ⟨65, _⟩ => ⟨S8x2048x1536, .f32⟩
  | .hbm, ⟨66, _⟩ => ⟨S8x2048x1536, .f32⟩
  | .hbm, ⟨67, _⟩ => ⟨S1x1536, .f32⟩
  | .hbm, ⟨68, _⟩ => ⟨S1536, .f32⟩
  | .hbm, ⟨69, _⟩ => ⟨S1x1x1536, .f32⟩
  | .hbm, ⟨70, _⟩ => ⟨S8x2048x1536, .f32⟩
  | .hbm, ⟨71, _⟩ => ⟨S8x2048x1536, .f32⟩
  | .hbm, ⟨72, _⟩ => ⟨S8x2048x1536, .f32⟩
  | .hbm, ⟨73, _⟩ => ⟨S1x1x1536, .f32⟩
  | .hbm, ⟨74, _⟩ => ⟨S8x2048x1536, .f32⟩
  | .hbm, ⟨75, _⟩ => ⟨S8x2048x1536, .f32⟩
  | .hbm, ⟨76, _⟩ => ⟨S8x2048x1536, .f32⟩
  | .hbm, ⟨77, _⟩ => ⟨S8x2048x1536, .f32⟩
  | .hbm, ⟨78, _⟩ => ⟨S_, .f32⟩
  | .hbm, ⟨79, _⟩ => ⟨S8x2048x1536, .f32⟩
  | .hbm, ⟨80, _⟩ => ⟨S8x2048x1536, .f32⟩
  | .hbm, ⟨81, _⟩ => ⟨S_, .f32⟩
  | .hbm, ⟨82, _⟩ => ⟨S8x2048x1536, .f32⟩
  | .hbm, ⟨83, _⟩ => ⟨S8x2048x1536, .f32⟩
  | .hbm, ⟨84, _⟩ => ⟨S8x2048x1536, .f32⟩
  | .hbm, ⟨85, _⟩ => ⟨S8x16x128x1024, .f32⟩
  | .hbm, ⟨86, _⟩ => ⟨S8x16x1024x128, .f32⟩
  | .hbm, ⟨87, _⟩ => ⟨S8x2048x1024, .f32⟩
  | .hbm, ⟨88, _⟩ => ⟨S8x16x128x1024, .f32⟩
  | .hbm, ⟨89, _⟩ => ⟨S8x16x1024x128, .f32⟩
  | .hbm, ⟨90, _⟩ => ⟨S8x16x1024x128, .bf16⟩
  | .hbm, ⟨91, _⟩ => ⟨S8x2048x512, .f32⟩
  | .hbm, ⟨92, _⟩ => ⟨S8x16x128x512, .f32⟩
  | .hbm, ⟨93, _⟩ => ⟨S8x16x512x128, .f32⟩
  | .hbm, ⟨94, _⟩ => ⟨S8x16x512x128, .bf16⟩
  | .hbm, ⟨95, _⟩ => ⟨S8x2048x256, .f32⟩
  | .hbm, ⟨96, _⟩ => ⟨S8x2048x256, .bf16⟩
  | .hbm, ⟨97, _⟩ => ⟨S8x2048x2048, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c : Ref sig .tc := ⟨.hbm, 40, rfl⟩
abbrev main_call0_v0 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_2 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_call1_v0 : Ref sig .tc := ⟨.hbm, 76, rfl⟩
abbrev main_call1_v1 : Ref sig .tc := ⟨.hbm, 77, rfl⟩
abbrev main_call1_cst : Ref sig .tc := ⟨.hbm, 78, rfl⟩
abbrev main_call1_v2 : Ref sig .tc := ⟨.hbm, 79, rfl⟩
abbrev main_call1_v3 : Ref sig .tc := ⟨.hbm, 80, rfl⟩
abbrev main_call1_cst_0 : Ref sig .tc := ⟨.hbm, 81, rfl⟩
abbrev main_call1_v4 : Ref sig .tc := ⟨.hbm, 82, rfl⟩
abbrev main_call1_v5 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩

abbrev nD : Nat := 1
abbrev τ : Topo := Topo.v7x

variable {F : FTy → Type} [FloatOps F]
-- ==== Proof.MergeValue.lean ====
/- The merge call at the ideal values: each row of its result as one formula of the arguments' rows. -/
module

public import proofs.«01_k».proof.Proof.Gen.MergeIdeal.Value
public import proofs.«01_k».proof.Proof.Gen.MergeRefIdeal.Run
public import proofs.«01_k».proof.Proof.Gen.MergeRefIdeal.Read
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

namespace Cert.MergeValue

open Idealize.ShloMosaic Idealize.ShloMosaic.TcCoe Idealize.SL.Sem

/-- The gate of a branch: the logistic function of a logit and its bias. -/
def gate (g gb : EReal) : EReal := Ideal.logistic (g + gb)

/-- The two gated branches of one token, summed, at column `k`. -/
def merged (oa : Fin 512 → EReal) (ob : Fin 1024 → EReal) (g gb : Fin 2048 → EReal)
    (wa : Fin 512 → Fin 1024 → EReal) (wb : Fin 1024 → Fin 1024 → EReal) (k : Fin 1024) : EReal :=
  gate (g ⟨k, by omega⟩) (gb ⟨k, by omega⟩) * (∑ p, oa p * wa p k)
    + gate (g ⟨1024 + k, by omega⟩) (gb ⟨1024 + k, by omega⟩) * (∑ p, ob p * wb p k)

/-- The residual stream of one token after the output product, at column `d`. -/
def resid (x : Fin 1024 → EReal) (mg : Fin 1024 → EReal) (wo : Fin 1024 → Fin 1024 → EReal) (d : Fin 1024) : EReal :=
  x d + ∑ k, mg k * wo k d

/-- The final normalization of one row, at column `d`. -/
def normed (y fw : Fin 1024 → EReal) (d : Fin 1024) : EReal :=
  y d * Ideal.rsqrt (Ideal.div (∑ k, y k * y k) (Ideal.ofBits .f32 0x44800000#32) + Ideal.ofBits .f32 0x358637BD#32) * fw d

/-- The slab of 128 tokens that row `r` of a block of 512 lies in, and its place there. -/
def slabOf (r : Fin 512) : Fin 4 := ⟨r.val / 128, by omega⟩
def laneOf (r : Fin 512) : Fin 128 := ⟨r.val % 128, by omega⟩

section Kernel
open Cert.MergeIdeal Cert.MergeIdeal.Gen

theorem pay_apply (x0 : Vec Ideal S1x512x1024 .f32) (x1 : Vec Ideal S1x512x512 .bf16) (x2 : Vec Ideal S1x4x1024x128 .bf16)
    (x3 : Vec Ideal S1x512x2048 .bf16) (x4 : Vec Ideal S1x2048 .f32) (x5 : Vec Ideal S512x1024 .bf16)
    (x6 x7 : Vec Ideal S1024x1024 .bf16) (x8 : Vec Ideal S1x1024 .f32) (r : Fin 512) (d : Fin 1024) :
    out0_9 x0 x1 x2 x3 x4 x5 x6 x7 x8 (ix3 0 r d) =
      normed (resid (fun k => x0 (ix3 0 r k)) (merged (fun p => x1 (ix3 0 r p))
        (fun p => x2 (ix4 0 (slabOf r) p (laneOf r))) (fun p => x3 (ix3 0 r p)) (fun p => x4 (ix2 0 p))
        (fun p k => x5 (ix2 p k)) (fun p k => x6 (ix2 p k))) (fun p k => x7 (ix2 p k))) (fun k => x8 (ix2 0 k)) d := by
  unfold out0_9
  rw [View.canon_unit_zero (by funext a; fin_cases a <;> rfl)]
  have slab : ∀ p : Fin 1024,
      (if h : r.val < 128 then x2 (ix4 0 0 p ⟨r.val, by omega⟩)
        else if h : r.val - 128 < 128 then x2 (ix4 0 1 p ⟨r.val - 128, by omega⟩)
        else if h : r.val - 128 - 128 < 128 then x2 (ix4 0 2 p ⟨r.val - 128 - 128, by omega⟩)
        else x2 (ix4 0 3 p ⟨r.val - 128 - 128 - 128, by omega⟩))
        = x2 (ix4 0 (slabOf r) p (laneOf r)) := by
    intro p
    split_ifs <;> refine congrArg x2 ?_ <;> simp only [slabOf, laneOf] <;> idx_ext <;> omega
  pointwise [k0_pay1, k0_pay2, k0_pay3, k0_pay4, k0_pay5, normed, resid, merged, gate]
  simp only [slab]

variable (m : (ℓ : Loc nD τ sig) → Buf (Elt Ideal) ℓ)

/-- The result array: each row the formula of the arguments' rows. -/
def G (c : Dev nD) : S8x2048x1024.Idx → EReal := fun i =>
  normed (resid (fun k => m ((c : Thread nD τ).loc main_arg0) (ix3 (i 0) (i 1) k))
    (merged (fun p => m ((c : Thread nD τ).loc main_arg1) (ix3 (i 0) (i 1) p))
      (fun p => m ((c : Thread nD τ).loc main_arg2) (ix4 (i 0) ⟨(i 1).val / 128, by have : (i 1).val < 2048 := (i 1).isLt; omega⟩ p ⟨(i 1).val % 128, by omega⟩))
      (fun p => m ((c : Thread nD τ).loc main_arg3) (ix3 (i 0) (i 1) p)) (fun p => m ((c : Thread nD τ).loc main_arg4) (ix2 0 p))
      (fun p k => m ((c : Thread nD τ).loc main_arg5) (ix3 0 p k)) (fun p k => m ((c : Thread nD τ).loc main_arg6) (ix3 0 p k)))
    (fun p k => m ((c : Thread nD τ).loc main_arg7) (ix3 0 p k))) (fun k => m ((c : Thread nD τ).loc main_arg8) (ix1 k)) (i 2)

theorem idx (t : Fin cfg0.N) : win0_0.index t = ![t.val / 4, t.val % 4, 0] ∧ win0_1.index t = ![t.val / 4, t.val % 4, 0]
    ∧ win0_2.index t = ![t.val / 4, t.val % 4, 0, 0] ∧ win0_3.index t = ![t.val / 4, t.val % 4, 0]
    ∧ win0_4.index t = ![0, 0] ∧ win0_5.index t = ![0, 0] ∧ win0_6.index t = ![0, 0] ∧ win0_7.index t = ![0, 0]
    ∧ win0_8.index t = ![0, 0] ∧ win0_9.index t = ![t.val / 4, t.val % 4, 0] :=
  (by decide +kernel : ∀ t : Fin cfg0.N, win0_0.index t = ![t.val / 4, t.val % 4, 0] ∧ win0_1.index t = ![t.val / 4, t.val % 4, 0]
    ∧ win0_2.index t = ![t.val / 4, t.val % 4, 0, 0] ∧ win0_3.index t = ![t.val / 4, t.val % 4, 0]
    ∧ win0_4.index t = ![0, 0] ∧ win0_5.index t = ![0, 0] ∧ win0_6.index t = ![0, 0] ∧ win0_7.index t = ![0, 0]
    ∧ win0_8.index t = ![0, 0] ∧ win0_9.index t = ![t.val / 4, t.val % 4, 0]) t

/-- The batch of grid point `t`. -/
def bat (t : Fin cfg0.N) : Fin 8 := ⟨t.val / 4, by have : t.val < 32 := t.isLt; omega⟩
/-- The token that row `r` of grid point `t`'s blocks holds. -/
def tok (t : Fin cfg0.N) (r : Fin 512) : Fin 2048 := ⟨t.val % 4 * 512 + r.val, by omega⟩

theorem blk0 (c : Dev nD) (t : Fin cfg0.N) (r : Fin 512) (k : Fin 1024) :
    iblk m c 0 t (ix3 0 r k) = m ((c : Thread nD τ).loc main_arg0) (ix3 (bat t) (tok t r) k) := by
  blk_point [iblk, V, idx t, bat, tok]
theorem blk1 (c : Dev nD) (t : Fin cfg0.N) (r : Fin 512) (k : Fin 512) :
    iblk m c 1 t (ix3 0 r k) = m ((c : Thread nD τ).loc main_arg1) (ix3 (bat t) (tok t r) k) := by
  blk_point [iblk, V, idx t, bat, tok]
theorem blk2 (c : Dev nD) (t : Fin cfg0.N) (r : Fin 512) (k : Fin 1024) :
    iblk m c 2 t (ix4 0 (slabOf r) k (laneOf r)) = m ((c : Thread nD τ).loc main_arg2)
      (ix4 (bat t) ⟨(tok t r).val / 128, by have := (tok t r).isLt; omega⟩ k ⟨(tok t r).val % 128, by omega⟩) := by
  blk_point [iblk, V, idx t, bat, tok, slabOf, laneOf]
theorem blk3 (c : Dev nD) (t : Fin cfg0.N) (r : Fin 512) (k : Fin 2048) :
    iblk m c 3 t (ix3 0 r k) = m ((c : Thread nD τ).loc main_arg3) (ix3 (bat t) (tok t r) k) := by
  blk_point [iblk, V, idx t, bat, tok]
theorem blk4 (c : Dev nD) (t : Fin cfg0.N) (k : Fin 2048) :
    iblk m c 4 t (ix2 0 k) = m ((c : Thread nD τ).loc main_arg4) (ix2 0 k) := by
  blk_point [iblk, V, idx t]
theorem blk5 (c : Dev nD) (t : Fin cfg0.N) (p : Fin 512) (k : Fin 1024) :
    iblk m c 5 t (ix2 p k) = m ((c : Thread nD τ).loc main_arg5) (ix3 0 p k) := by
  blk_point [iblk, V, idx t]
theorem blk6 (c : Dev nD) (t : Fin cfg0.N) (p : Fin 1024) (k : Fin 1024) :
    iblk m c 6 t (ix2 p k) = m ((c : Thread nD τ).loc main_arg6) (ix3 0 p k) := by
  blk_point [iblk, V, idx t]
theorem blk7 (c : Dev nD) (t : Fin cfg0.N) (p : Fin 1024) (k : Fin 1024) :
    iblk m c 7 t (ix2 p k) = m ((c : Thread nD τ).loc main_arg7) (ix3 0 p k) := by
  blk_point [iblk, V, idx t]
theorem blk8 (c : Dev nD) (t : Fin cfg0.N) (k : Fin 1024) :
    iblk m c 8 t (ix2 0 k) = m ((c : Thread nD τ).loc main_arg8) (ix1 k) := by
  blk_point [iblk, V, idx t]

theorem emb9 (t : Fin cfg0.N) (r : Fin 512) (d : Fin 1024) :
    ((cfg0.win 9).blk t).view.emb (ix3 0 r d) = ix3 (bat t) (tok t r) d := by
  blk_ext [idx t, bat, tok]

set_option maxHeartbeats 1000000 in
theorem pay_blk (c : Dev nD) (t : Fin cfg0.N) (r : Fin 512) (d : Fin 1024) :
    out0_9 (iblk m c 0 t) (iblk m c 1 t) (iblk m c 2 t) (iblk m c 3 t) (iblk m c 4 t) (iblk m c 5 t) (iblk m c 6 t)
      (iblk m c 7 t) (iblk m c 8 t) (ix3 0 r d) = G m c (ix3 (bat t) (tok t r) d) := by
  refine (pay_apply _ _ _ _ _ _ _ _ _ r d).trans ?_
  simp only [blk0, blk1, blk2, blk3, blk4, blk5, blk6, blk7, blk8]
  rfl

theorem y_eq (y : S1x512x1024.Idx) : ∃ (r : Fin 512) (d : Fin 1024), y = ix3 0 r d :=
  ⟨y 1, y 2, by idx_vars y; fin_cases y0; rfl⟩

theorem final (c : Dev nD) : (dats m 0 c).arrAt 9 cfg0.N = G m c := by
  refine (dats m 0 c).arrAt_eq_of_covers 9 _ (by decide +kernel) fun t hf y => ?_
  blk_simp
  rw [after0_9]
  obtain ⟨r, d, hy⟩ := y_eq y
  subst hy
  exact (pay_blk m c t r d).trans (congrArg (G m c) (emb9 t r d).symm)

end Kernel

section Reference
open Cert.MergeRefIdeal Cert.MergeRefIdeal.Read

theorem ref_apply (x0 : (⟨S8x2048x1024, .f32⟩ : BufTy).Contents (Elt Ideal)) (x1 : (⟨S8x2048x512, .bf16⟩ : BufTy).Contents (Elt Ideal))
    (x2 : (⟨S8x16x1024x128, .bf16⟩ : BufTy).Contents (Elt Ideal)) (x3 : (⟨S8x2048x2048, .bf16⟩ : BufTy).Contents (Elt Ideal))
    (x4 : (⟨S1x2048, .f32⟩ : BufTy).Contents (Elt Ideal)) (x5 : (⟨S1x512x1024, .f32⟩ : BufTy).Contents (Elt Ideal))
    (x6 x7 : (⟨S1x1024x1024, .f32⟩ : BufTy).Contents (Elt Ideal)) (x8 : (⟨S1024, .f32⟩ : BufTy).Contents (Elt Ideal))
    (b : Fin 8) (t : Fin 2048) (d : Fin 1024) :
    val_main_v39 (F := Ideal) x0 x1 x2 x3 x4 x5 x6 x7 x8 (ix3 b t d) =
      normed (resid (fun k => x0 (ix3 b t k)) (merged (fun p => x1 (ix3 b t p))
        (fun p => x2 (ix4 b ⟨t / 128, by omega⟩ p ⟨t % 128, by omega⟩)) (fun p => x3 (ix3 b t p)) (fun p => x4 (ix2 0 p))
        (fun p k => x5 (ix3 0 p k)) (fun p k => x6 (ix3 0 p k))) (fun p k => x7 (ix3 0 p k))) (fun k => x8 (ix1 k)) d := by
  pointwise [val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, normed, resid, merged, gate, Ideal.logistic]

end Reference

/-- The claim: at the ideal values the kernel's result is the reference's. -/
theorem algebraic (m : (ℓ : Loc Cert.MergeIdeal.nD Cert.MergeIdeal.τ Cert.MergeIdeal.sig) → Buf (Elt Ideal) ℓ) (c : Dev Cert.MergeIdeal.nD) :
    G m c = Cert.MergeRefIdeal.Read.val_main_v39 (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) := by
  funext i
  obtain ⟨b, t, d, rfl⟩ : ∃ (b : Fin 8) (t : Fin 2048) (d : Fin 1024), i = ix3 b t d := ⟨i 0, i 1, i 2, eq_ix3 i⟩
  rw [ref_apply]
  rfl

end Cert.MergeValue

end
-- ==== Proof.ProjCommon.lean ====
/- The in-projection of the normalized row, at the ideal values: the formula both parts of the projection call are read by. -/
module

public import Idealize.ShloMosaic.Lib.Pointwise

@[expose] public section

set_option maxRecDepth 16384

noncomputable section

namespace Cert.ProjValue

open Idealize.ShloMosaic Idealize.ShloMosaic.TcCoe Idealize.SL.Sem

variable (x : Vec Ideal ⟨3, ![8, 2048, 1024]⟩ .f32) (nw : Vec Ideal ⟨2, ![1, 1024]⟩ .f32)
  (w : Vec Ideal ⟨3, ![1, 1024, 6228]⟩ .f32)

/-- The normalized row of token `s` of batch `b`, at feature `k`. -/
def hid (b : Fin 8) (s : Fin 2048) (k : Fin 1024) : EReal :=
  x (ix3 b s k) * Ideal.rsqrt (Ideal.div (∑ j, x (ix3 b s j) * x (ix3 b s j)) (Ideal.ofBits .f32 0x44800000#32)
    + Ideal.ofBits .f32 0x358637BD#32) * nw (ix2 0 k)

/-- Column `c` of the in-projection of token `s`. -/
def prj (b : Fin 8) (s : Fin 2048) (c : Fin 6228) : EReal := ∑ k, hid x nw b s k * w (ix3 0 k c)

theorem prj_congr {b b' : Fin 8} {s s' : Fin 2048} {c c' : Fin 6228} (hb : b = b') (hs : s.val = s'.val) (hc : c.val = c'.val) :
    prj x nw w b s c = prj x nw w b' s' c' := by
  obtain rfl := hb; obtain rfl := Fin.ext hs; obtain rfl := Fin.ext hc; rfl

/-- The normalized row of token `s` of a block of 512 tokens. -/
def hidB (x0 : Vec Ideal ⟨3, ![1, 512, 1024]⟩ .f32) (x1 : Vec Ideal ⟨2, ![1, 1024]⟩ .f32) (s : Fin 512) (k : Fin 1024) : EReal :=
  x0 (ix3 0 s k) * Ideal.rsqrt (Ideal.div (∑ j, x0 (ix3 0 s j) * x0 (ix3 0 s j)) (Ideal.ofBits .f32 0x44800000#32)
    + Ideal.ofBits .f32 0x358637BD#32) * x1 (ix2 0 k)

end Cert.ProjValue

end
-- ==== Proof.ProjAttnRead.lean ====
/- The reference of the projection's attention part at the ideal values: each of its results as a formula of the arguments.
   `prj` is the in-projection of the normalized row and `rope` the partial rotation of a head of 64 features. -/
module

public import proofs.«01_k».proof.Proof.Gen.ProjAttnRefIdeal.Run
public import proofs.«01_k».proof.Proof.Gen.ProjAttnRefIdeal.Read
public import proofs.«01_k».proof.Proof.ProjCommon
public import Idealize.ShloMosaic.Lib.Pointwise
public import Idealize.ShloMosaic.Lib.Pipeline.ValueKit

@[expose] public section

set_option maxRecDepth 16384

noncomputable section

namespace Cert.ProjAttnValue

open Idealize.ShloMosaic Idealize.ShloMosaic.TcCoe Idealize.SL.Sem
open Cert.ProjAttnRefIdeal Cert.ProjAttnRefIdeal.Read Cert.ProjValue

variable (x : Vec Ideal S8x2048x1024 .f32) (pos : Vec Ideal S8x2048 .i32) (nw : Vec Ideal S1x1024 .f32)
  (w : Vec Ideal S1x1024x6228 .f32)

/-- The rotation angle of token `s` at frequency `f`. -/
def angle (b : Fin 8) (s : Fin 2048) (f : Fin 8) : EReal :=
  FloatOps.sitofp (F := Ideal) .f32 (pos (ix2 b s)) * Ideal.pow (Ideal.ofBits .f32 0x48F42400#32)
    (Ideal.div (-(Ideal.ofBits .f32 0x00000000#32 + Ideal.ofBits .f32 0x40000000#32 * FloatOps.sitofp (F := Ideal) .f32 (BitVec.ofNat 32 f)))
      (Ideal.ofBits .f32 0x41800000#32))

/-- The first half of the rotated pairs of a head `p`. -/
def rotLo (p : Fin 64 → EReal) (a : Fin 8 → EReal) (d : Fin 8) : EReal :=
  p ⟨d, by omega⟩ * Ideal.cos (a d) - p ⟨8 + d, by omega⟩ * Ideal.sin (a d)

/-- The second half of the rotated pairs of a head `p`. -/
def rotHi (p : Fin 64 → EReal) (a : Fin 8 → EReal) (d : Fin 8) : EReal :=
  p ⟨8 + d, by omega⟩ * Ideal.cos (a d) + p ⟨d, by omega⟩ * Ideal.sin (a d)

/-- The partial rotation of a head `p` of 64 features: the first 16 are rotated, the others are as they were. -/
def rope (p : Fin 64 → EReal) (a : Fin 8 → EReal) (d : Fin 64) : EReal :=
  if h : d.val < 16 then (if h' : d.val < 8 then rotLo p a ⟨d, h'⟩ else rotHi p a ⟨d - 8, by omega⟩) else p d

/-- The head of 64 columns of the in-projection that begins at column `o`. -/
def headAt (o : ℕ) (ho : o + 64 ≤ 6228) (b : Fin 8) (s : Fin 2048) (d : Fin 64) : EReal := prj x nw w b s ⟨o + d, by omega⟩

theorem v33_apply (b : Fin 8) (s : Fin 2048) (k : Fin 1024) : val_main_v33 (F := Ideal) x nw (ix3 b s k) = hid x nw b s k := by
  pointwise [val_main_v33, val_main_v32, val_main_v31, val_main_v30, val_main_v29, val_main_v28, val_main_v27,
      val_main_v26, val_main_v25, val_main_v24, val_main_v23, val_main_v22, val_main_v21, val_main_v20,
      val_main_v19]
  have e : val_main_cst_3 (F := Ideal) (Shape.Idx.first Gen.h_S_) = 0 := Ideal.ofBits_zero_f32
  rw [e, zero_add]
  rfl

theorem v35_apply (b : Fin 8) (s : Fin 2048) (c : Fin 6228) : val_main_v35 (F := Ideal) x nw w (ix3 b s c) = prj x nw w b s c := by
  pointwise [val_main_v35, val_main_v34]
  simp only [v33_apply]
  rfl

theorem v17_apply (b : Fin 8) (s : Fin 2048) (f : Fin 8) :
    val_main_v17 (F := Ideal) pos (ix4 b s 0 f) = Ideal.cos (angle pos b s f) := by
  pointwise [val_main_v17, val_main_v16, val_main_v15, val_main_v14, val_main_v13, val_main_v12, val_main_v11,
      val_main_v10, val_main_v9, val_main_v8, val_main_v7, val_main_v6, val_main_v5, val_main_v4, val_main_v3,
      val_main_v2, val_main_v1, val_main_v0]
  rfl

theorem v19_apply (b : Fin 8) (s : Fin 2048) (f : Fin 8) :
    val_main_v19 (F := Ideal) pos (ix4 b s 0 f) = Ideal.sin (angle pos b s f) := by
  pointwise [val_main_v19, val_main_v18, val_main_v15, val_main_v14, val_main_v13, val_main_v12, val_main_v11,
      val_main_v10, val_main_v9, val_main_v8, val_main_v7, val_main_v6, val_main_v5, val_main_v4, val_main_v3,
      val_main_v2, val_main_v1, val_main_v0]
  rfl

/-- A rotated head, its three cases written out over the columns of the in-projection, is `rope` of the head. -/
theorem rope_dcases (o : ℕ) (ho : o + 64 ≤ 6228) (b : Fin 8) (s : Fin 2048) (n : ℕ) (hn : n < 64)
    (c1 c2 : n < 16 → n < 8 → Fin 6228) (c3 c4 : n < 16 → ¬ n < 8 → Fin 6228) (c5 : ¬ n < 16 → Fin 6228)
    (a1 : n < 16 → n < 8 → Fin 8) (a2 : n < 16 → ¬ n < 8 → Fin 8)
    (h1 : ∀ h h', (c1 h h').val = o + n ∧ (c2 h h').val = o + (8 + n) ∧ (a1 h h').val = n)
    (h2 : ∀ h h', (c3 h h').val = o + (8 + (n - 8)) ∧ (c4 h h').val = o + (n - 8) ∧ (a2 h h').val = n - 8)
    (h3 : ∀ h, (c5 h).val = o + n) :
    (if h : n < 16 then
        if h' : n < 8 then
          prj x nw w b s (c1 h h') * Ideal.cos (angle pos b s (a1 h h')) - prj x nw w b s (c2 h h') * Ideal.sin (angle pos b s (a1 h h'))
        else prj x nw w b s (c3 h h') * Ideal.cos (angle pos b s (a2 h h')) + prj x nw w b s (c4 h h') * Ideal.sin (angle pos b s (a2 h h'))
      else prj x nw w b s (c5 h)) = rope (headAt x nw w o ho b s) (angle pos b s) ⟨n, hn⟩ := by
  unfold rope rotLo rotHi headAt
  by_cases h : n < 16
  · by_cases h' : n < 8
    · obtain ⟨e1, e2, e3⟩ := h1 h h'
      have ea : a1 h h' = ⟨n, h'⟩ := Fin.ext e3
      simp only [h, h', ↓reduceDIte, ea]
      exact congrArg₂ (· - ·) (congrArg (· * _) (prj_congr x nw w rfl rfl e1)) (congrArg (· * _) (prj_congr x nw w rfl rfl e2))
    · obtain ⟨e1, e2, e3⟩ := h2 h h'
      have ea : a2 h h' = ⟨n - 8, by omega⟩ := Fin.ext e3
      simp only [h, h', ↓reduceDIte, ea]
      exact congrArg₂ (· + ·) (congrArg (· * _) (prj_congr x nw w rfl rfl e1)) (congrArg (· * _) (prj_congr x nw w rfl rfl e2))
  · simp only [h, ↓reduceDIte]
    exact prj_congr x nw w rfl rfl (h3 h)

/-- The queries: rotated, scaled, feature-major. -/
theorem v116_apply (b : Fin 8) (s : Fin 2048) (r : Fin 512) : val_main_v116 (F := Ideal) x pos nw w (ix3 b r s) =
    rope (headAt x nw w (r / 64 * 64) (by omega) b s) (angle pos b s) ⟨r % 64, by omega⟩ * Ideal.ofBits .f32 0x3E38AA3B#32 := by
  pointwise [val_main_v116, val_main_v115, val_main_v114, val_main_v113, val_main_v112, val_main_v64, val_main_v63,
      val_main_v62, val_main_v61, val_main_v60, val_main_v59, val_main_v58, val_main_v57, val_main_v56,
      val_main_v55, val_main_v54, val_main_v53, val_main_v52, val_main_v51, val_main_v50, val_main_v49,
      val_main_v36]
  simp only [v35_apply, v17_apply, v19_apply]
  refine congrArg (· * _) ?_
  apply rope_dcases <;> intros <;> dsimp only <;> omega

/-- The index queries: rotated, scaled, feature-major. -/
theorem v121_apply (b : Fin 8) (s : Fin 2048) (r : Fin 256) : val_main_v121 (F := Ideal) x pos nw w (ix3 b r s) =
    rope (headAt x nw w (1280 + r / 64 * 64) (by omega) b s) (angle pos b s) ⟨r % 64, by omega⟩ * Ideal.ofBits .f32 0x3E000000#32 := by
  pointwise [val_main_v121, val_main_v120, val_main_v119, val_main_v118, val_main_v117, val_main_v97, val_main_v96,
      val_main_v95, val_main_v94, val_main_v93, val_main_v92, val_main_v91, val_main_v90, val_main_v89,
      val_main_v88, val_main_v87, val_main_v86, val_main_v85, val_main_v84, val_main_v83, val_main_v82,
      val_main_v40]
  simp only [v35_apply, v17_apply, v19_apply]
  refine congrArg (· * _) ?_
  apply rope_dcases <;> intros <;> dsimp only <;> omega

/-- The keys: rotated. -/
theorem v132_apply (b : Fin 8) (s : Fin 2048) (r : Fin 128) : val_main_v132 (F := Ideal) x pos nw w (ix3 b s r) =
    rope (headAt x nw w (512 + r / 64 * 64) (by omega) b s) (angle pos b s) ⟨r % 64, by omega⟩ := by
  pointwise [val_main_v132, val_main_v131, val_main_v80, val_main_v79, val_main_v78, val_main_v77, val_main_v76,
      val_main_v75, val_main_v74, val_main_v73, val_main_v72, val_main_v71, val_main_v70, val_main_v69,
      val_main_v68, val_main_v67, val_main_v66, val_main_v65, val_main_v37]
  simp only [v35_apply, v17_apply, v19_apply]
  apply rope_dcases <;> intros <;> dsimp only <;> omega

/-- The index keys: rotated. -/
theorem v133_apply (b : Fin 8) (s : Fin 2048) (r : Fin 64) : val_main_v133 (F := Ideal) x pos nw w (ix3 b s r) =
    rope (headAt x nw w (1536) (by omega) b s) (angle pos b s) ⟨r, by omega⟩ := by
  pointwise [val_main_v133, val_main_v110, val_main_v109, val_main_v108, val_main_v107, val_main_v106, val_main_v105,
      val_main_v104, val_main_v103, val_main_v102, val_main_v101, val_main_v100, val_main_v99, val_main_v98,
      val_main_v41]
  simp only [v35_apply, v17_apply, v19_apply]
  apply rope_dcases <;> intros <;> dsimp only <;> omega

theorem call0_zero (i : S_.Idx) : val_main_call0_v0 (F := Ideal) i = 0 := by
  pointwise [val_main_call0_v0, val_main_c]
  show ((((0#32 : BitVec 32).toInt : ℝ)) : EReal) = 0
  simp

/-- The index weights: scaled, feature-major, four rows of zeros after the four heads. -/
theorem v125_apply (b : Fin 8) (r : Fin 8) (s : Fin 2048) : val_main_v125 (F := Ideal) x nw w (ix3 b r s) =
    if h : r.val < 4 then prj x nw w b s ⟨1600 + r, by omega⟩ * Ideal.ofBits .f32 0x3F000000#32 else 0 := by
  pointwise [val_main_v125, val_main_v124, val_main_v123, val_main_v122, val_main_v42]
  simp only [v35_apply, call0_zero]
  rfl

/-- The step sizes, feature-major. -/
theorem v126_apply (b : Fin 8) (r : Fin 16) (s : Fin 2048) : val_main_v126 (F := Ideal) x nw w (ix3 b r s) =
    prj x nw w b s ⟨4164 + r, by omega⟩ := by
  pointwise [val_main_v126, val_main_v47]
  exact v35_apply x nw w _ _ _

/-- The values, feature-major, sixteen rows of ones after each head. -/
theorem v130_apply (b : Fin 8) (r : Fin 160) (s : Fin 2048) : val_main_v130 (F := Ideal) x nw w (ix3 b r s) =
    if h : r.val % 80 < 64 then prj x nw w b s ⟨640 + (r / 80 * 64 + r % 80), by omega⟩ else 1 := by
  pointwise [val_main_v130, val_main_v129, val_main_v128, val_main_v127, val_main_v111, val_main_v81, val_main_v38]
  simp only [v35_apply]
  rw [show val_main_cst_6 (F := Ideal) ix0 = 1 from Ideal.ofBits_one_f32]

end Cert.ProjAttnValue

end
-- ==== Proof.ProjAttnStep.lean ====
/- The attention part of the projection call at the ideal values, one grid point at a time: what it stores as formulas of the blocks it reads. -/
module

public import proofs.«01_k».proof.Proof.Gen.ProjAttnIdeal.Skeleton
public import proofs.«01_k».proof.Proof.ProjAttnRead
public import Idealize.ShloMosaic.Lib.KernelVsHost

@[expose] public section

set_option maxRecDepth 16384

noncomputable section

namespace Cert.ProjAttnValue

open Idealize.ShloMosaic Idealize.ShloMosaic.TcCoe Idealize.SL.Sem
open Cert.ProjAttnIdeal Cert.ProjAttnIdeal.Gen Cert.ProjValue

theorem pay2_apply (x0 : Vec Ideal S1x512x1024 .f32) (x1 : Vec Ideal S1x1024 .f32) (x4 : Vec Ideal S1152x1024 .bf16)
    (r : Fin 1152) (s : Fin 512) : k0_pay2 x0 x1 x4 (ix2 r s) = ∑ k, x4 (ix2 r k) * hidB x0 x1 s k := by
  pointwise [k0_pay2]
  rfl

/-- A head `p` of 64 features with its first 16 turned in pairs by the cosines `cs` and sines `sn`. -/
def turn (p : Fin 64 → EReal) (cs sn : Fin 8 → EReal) (d : Fin 64) : EReal :=
  if h : d.val < 16 then
    (if h' : d.val < 8 then p ⟨d, by omega⟩ * cs ⟨d, h'⟩ - p ⟨8 + d, by omega⟩ * sn ⟨d, h'⟩
      else p ⟨8 + (d - 8), by omega⟩ * cs ⟨d - 8, by omega⟩ + p ⟨d - 8, by omega⟩ * sn ⟨d - 8, by omega⟩)
  else p d

theorem rope_eq_turn (p : Fin 64 → EReal) (a : Fin 8 → EReal) (d : Fin 64) :
    rope p a d = turn p (fun f => Ideal.cos (a f)) (fun f => Ideal.sin (a f)) d := rfl

/-- The 16 turned rows of a head that begins at row `o` of `q`, as the call computes them (`o'` is `o + 8`). -/
def turned {n : ℕ} (q : FVec Ideal ⟨2, ![n, 512]⟩ .f32) (cs sn : FVec Ideal S8x512 .f32) (o o' : ℕ)
    (h : Shape.Slices ⟨2, ![n, 512]⟩ ![o, 0] S8x512) (h' : Shape.Slices ⟨2, ![n, 512]⟩ ![o', 0] S8x512) : FVec Ideal S16x512 .f32 :=
  concatenate S16x512 0
    [⟨S8x512, subf (mulf (extractStridedSlice S8x512 ![o, 0] q h) cs) (mulf (extractStridedSlice S8x512 ![o', 0] q h') sn)⟩,
      ⟨S8x512, addf (mulf (extractStridedSlice S8x512 ![o', 0] q h') cs) (mulf (extractStridedSlice S8x512 ![o, 0] q h) sn)⟩]
    concatenates_S8x512_S8x512_S16x512_d0

theorem slice_rows {n : ℕ} (q : FVec Ideal ⟨2, ![n, 512]⟩ .f32) (o : ℕ) (h : Shape.Slices ⟨2, ![n, 512]⟩ ![o, 0] S8x512) (hn : o + 8 ≤ n) :
    extractStridedSlice S8x512 ![o, 0] q h = fun i => q (ix2 ⟨o + (i 0).val, by have : (i 0).val < 8 := (i 0).isLt; omega⟩ (i 1)) := by
  funext i
  refine congrArg q (funext fun a => ?_)
  match a with
  | ⟨0, _⟩ => rfl
  | ⟨1, _⟩ => exact Fin.ext (Nat.zero_add _)

theorem turned_apply {n : ℕ} (q : FVec Ideal ⟨2, ![n, 512]⟩ .f32) (cs sn : FVec Ideal S8x512 .f32) (o o' : ℕ)
    (h : Shape.Slices ⟨2, ![n, 512]⟩ ![o, 0] S8x512) (h' : Shape.Slices ⟨2, ![n, 512]⟩ ![o', 0] S8x512) (ho : o' = o + 8) (hn : o + 64 ≤ n)
    (a : Fin 16) (s : Fin 512) :
    turned q cs sn o o' h h' (ix2 a s) = turn (fun d => q (ix2 ⟨o + d, by omega⟩ s)) (fun f => cs (ix2 f s)) (fun f => sn (ix2 f s)) ⟨a, by omega⟩ := by
  subst ho
  have ha : a.val < 16 := a.isLt
  unfold turned turn
  rw [slice_rows q o h (by omega), slice_rows q (o + 8) h' (by omega), dif_pos (show (⟨a.val, by omega⟩ : Fin 64).val < 16 from ha)]
  pointwise
  split_ifs with h8
  · refine congrArg₂ (· - ·) (congrArg (· * _) (congrArg q ?_)) (congrArg (· * _) (congrArg q ?_)) <;> idx_ext <;> omega
  · rename_i h0
    have e1 : (⟨o + 8 + (a.val - 8), by omega⟩ : Fin n) = ⟨o + (8 + (a.val - 8)), by omega⟩ := Fin.ext (by simp only []; omega)
    exact congrArg (· + _) (congrArg (· * _) (congrArg (fun r => q (ix2 r s)) e1))
  · rename_i h0
    exact absurd rfl h0

/-- A turned head's 16 rows, scaled, as one store of the call. -/
def piece {n : ℕ} (q : FVec Ideal ⟨2, ![n, 512]⟩ .f32) (cs sn : FVec Ideal S8x512 .f32) (o o' : ℕ) (sc : BitVec 32)
    (h : Shape.Slices ⟨2, ![n, 512]⟩ ![o, 0] S8x512) (h' : Shape.Slices ⟨2, ![n, 512]⟩ ![o', 0] S8x512) : FVec Ideal S1x16x512 .bf16 :=
  shapeCast S1x16x512 (truncf .bf16 (mulf (turned q cs sn o o' h h') (broadcast S16x512 (Scalar.ofBits .f32 sc : Ideal .f32))) bitsLt_bf16_f32)
    shapeCasts_S16x512_S1x16x512

theorem piece_apply {n : ℕ} (q : FVec Ideal ⟨2, ![n, 512]⟩ .f32) (cs sn : FVec Ideal S8x512 .f32) (o o' : ℕ) (sc : BitVec 32)
    (h : Shape.Slices ⟨2, ![n, 512]⟩ ![o, 0] S8x512) (h' : Shape.Slices ⟨2, ![n, 512]⟩ ![o', 0] S8x512) (ho : o' = o + 8) (hn : o + 64 ≤ n)
    (a : Fin 16) (s : Fin 512) :
    piece q cs sn o o' sc h h' (ix3 0 a s) =
      turn (fun d => q (ix2 ⟨o + d, by omega⟩ s)) (fun f => cs (ix2 f s)) (fun f => sn (ix2 f s)) ⟨a, by omega⟩ * Ideal.ofBits .f32 sc := by
  rw [← turned_apply q cs sn o o' h h' ho hn a s]
  pointwise [piece]

section Stores
variable (x0 : Vec Ideal S1x512x1024 .f32) (x1 : Vec Ideal S1x1024 .f32) (x4 : Vec Ideal S1152x1024 .bf16)
  (T : FVec Ideal S1152x512 .f32) (cs sn : FVec Ideal S8x512 .f32)

theorem pay6_apply (r s : Fin 512) : k0_pay6 x0 x1 x4 (ix3 0 r s) = k0_pay2 x0 x1 x4 (ix2 ⟨r, by omega⟩ s) * Ideal.ofBits .f32 0x3E38AA3B#32 := by
  pointwise [k0_pay6, k0_pay5]

theorem pay5_apply (r s : Fin 512) : k0_pay5 x0 x1 x4 (ix2 r s) = k0_pay2 x0 x1 x4 (ix2 ⟨r, by omega⟩ s) := by
  pointwise [k0_pay5]

theorem pay25_apply (r : Fin 256) (s : Fin 512) : k0_pay25 T (ix3 0 r s) = T (ix2 ⟨512 + r, by omega⟩ s) * Ideal.ofBits .f32 0x3E000000#32 := by
  pointwise [k0_pay25, k0_pay24]

theorem pay24_apply (r : Fin 256) (s : Fin 512) : k0_pay24 T (ix2 r s) = T (ix2 ⟨512 + r, by omega⟩ s) := by
  pointwise [k0_pay24]

theorem pay32_apply (r : Fin 8) (s : Fin 512) : k0_pay32 T (ix3 0 r s) = T (ix2 ⟨960 + r, by omega⟩ s) * Ideal.ofBits .f32 0x3F000000#32 := by
  pointwise [k0_pay32]

theorem pay33_apply (r : Fin 16) (s : Fin 512) : k0_pay33 T (ix3 0 r s) = T (ix2 ⟨968 + r, by omega⟩ s) := by
  pointwise [k0_pay33]

theorem pay34_apply (r : Fin 64) (s : Fin 512) : k0_pay34 T (ix3 0 r s) = T (ix2 ⟨1024 + r, by omega⟩ s) := by
  pointwise [k0_pay34]

theorem pay36_apply (r : Fin 64) (s : Fin 512) : k0_pay36 T (ix3 0 r s) = T (ix2 ⟨1088 + r, by omega⟩ s) := by
  pointwise [k0_pay36]

theorem pay35_apply (r : Fin 16) (s : Fin 512) : k0_pay35 (F := Ideal) (ix3 0 r s) = 1 := by
  pointwise [k0_pay35]

theorem pay39_apply (s : Fin 512) (r : Fin 128) : k0_pay39 T cs sn (ix3 0 s r) =
    turn (fun d => T (ix2 ⟨768 + (r / 64 * 64 + d), by omega⟩ s)) (fun f => cs (ix2 f s)) (fun f => sn (ix2 f s)) ⟨r % 64, by omega⟩ := by
  unfold turn
  have hr : r.val < 128 := r.isLt
  have tc : ∀ a b : Fin 1152, a.val = b.val → T (ix2 a s) = T (ix2 b s) := fun a b e => by rw [Fin.ext e]
  have cc : ∀ a b : Fin 8, a.val = b.val → cs (ix2 a s) = cs (ix2 b s) := fun a b e => by rw [Fin.ext e]
  have sc : ∀ a b : Fin 8, a.val = b.val → sn (ix2 a s) = sn (ix2 b s) := fun a b e => by rw [Fin.ext e]
  pointwise [k0_pay39]
  repeat' split
  all_goals first
    | (exfalso; omega)
    | exact tc _ _ (by dsimp only <;> omega)
    | exact congrArg₂ (· - ·) (congrArg₂ (· * ·) (tc _ _ (by dsimp only <;> omega)) (cc _ _ (by dsimp only <;> omega)))
        (congrArg₂ (· * ·) (tc _ _ (by dsimp only <;> omega)) (sc _ _ (by dsimp only <;> omega)))
    | exact congrArg₂ (· + ·) (congrArg₂ (· * ·) (tc _ _ (by dsimp only <;> omega)) (cc _ _ (by dsimp only <;> omega)))
        (congrArg₂ (· * ·) (tc _ _ (by dsimp only <;> omega)) (sc _ _ (by dsimp only <;> omega)))

theorem pay1_apply (s : Fin 512) (r : Fin 64) : k0_pay1 (k0_pay40 T cs sn) (ix3 0 s r) =
    turn (fun d => T (ix2 ⟨896 + d, by omega⟩ s)) (fun f => cs (ix2 f s)) (fun f => sn (ix2 f s)) r := by
  unfold turn
  have hr : r.val < 64 := r.isLt
  pointwise [k0_pay1, k0_pay40]
  split_ifs <;> first
    | rfl
    | (exfalso; omega)
    | exact congrArg T (congrArg (fun a => ix2 a s) (Fin.ext (by dsimp only <;> omega)))

end Stores

end Cert.ProjAttnValue

end
-- ==== Proof.ProjAttnBlock.lean ====
/- The attention part of the projection call, its blocks at the ideal values: what each grid point reads of the arguments. -/
module

public import proofs.«01_k».proof.Proof.Gen.ProjAttnIdeal.Frame.Runs
public import proofs.«01_k».proof.Proof.ProjAttnRead
public import Idealize.ShloMosaic.Lib.Pointwise
public import Idealize.ShloMosaic.Lib.Pipeline.ValueKit
public import Idealize.ShloMosaic.Lib.Claim
public import Idealize.ShloMosaic.Lib.StableHlo.ReadAt

@[expose] public section

set_option maxRecDepth 16384

noncomputable section

namespace Cert.ProjAttnValue

open Idealize.ShloMosaic Idealize.ShloMosaic.TcCoe Idealize.SL.Sem
open Cert.ProjAttnIdeal Cert.ProjAttnIdeal.Gen Cert.ProjValue

variable (m : (ℓ : Loc nD τ sig) → Buf (Elt Ideal) ℓ)

theorem idx (t : Fin cfg0.N) : win0_0.index t = ![t.val / 4, t.val % 4, 0]
    ∧ win0_1.index t = ![0, 0]
    ∧ win0_2.index t = ![t.val / 4, 0, t.val % 4]
    ∧ win0_3.index t = ![t.val / 4, 0, t.val % 4]
    ∧ win0_4.index t = ![0, 0] :=
  (by decide +kernel : ∀ t : Fin cfg0.N, win0_0.index t = ![t.val / 4, t.val % 4, 0]
    ∧ win0_1.index t = ![0, 0]
    ∧ win0_2.index t = ![t.val / 4, 0, t.val % 4]
    ∧ win0_3.index t = ![t.val / 4, 0, t.val % 4]
    ∧ win0_4.index t = ![0, 0]) t

theorem idxo (t : Fin cfg0.N) : win0_5.index t = ![t.val / 4, 0, t.val % 4]
    ∧ win0_6.index t = ![t.val / 4, 0, t.val % 4]
    ∧ win0_7.index t = ![t.val / 4, 0, t.val % 4]
    ∧ win0_8.index t = ![t.val / 4, 0, t.val % 4]
    ∧ win0_9.index t = ![t.val / 4, 0, t.val % 4]
    ∧ win0_10.index t = ![t.val / 4, t.val % 4, 0]
    ∧ win0_11.index t = ![t.val / 4, t.val % 4, 0] :=
  (by decide +kernel : ∀ t : Fin cfg0.N, win0_5.index t = ![t.val / 4, 0, t.val % 4]
    ∧ win0_6.index t = ![t.val / 4, 0, t.val % 4]
    ∧ win0_7.index t = ![t.val / 4, 0, t.val % 4]
    ∧ win0_8.index t = ![t.val / 4, 0, t.val % 4]
    ∧ win0_9.index t = ![t.val / 4, 0, t.val % 4]
    ∧ win0_10.index t = ![t.val / 4, t.val % 4, 0]
    ∧ win0_11.index t = ![t.val / 4, t.val % 4, 0]) t

/-- The batch of grid point `t`. -/
def bat (t : Fin cfg0.N) : Fin 8 := ⟨t.val / 4, by have : t.val < 32 := t.isLt; omega⟩
/-- The token that row `s` of grid point `t`'s blocks holds. -/
def tok (t : Fin cfg0.N) (s : Fin 512) : Fin 2048 := ⟨t.val % 4 * 512 + s.val, by omega⟩

theorem blk0 (c : Dev nD) (t : Fin cfg0.N) (s : Fin 512) (k : Fin 1024) :
    iblk m c 0 t (ix3 0 s k) = m ((c : Thread nD τ).loc main_arg0) (ix3 (bat t) (tok t s) k) := by
  refine Eq.trans (congrArg (V m c main_arg0) (?_ : _ = ix3 (bat t) (tok t s) k)) (congrFun (V_main_arg0 m c) _)
  blk_ext [idx t, bat, tok]

theorem entry1 (c : Dev nD) (k : Fin 1024) : V m c main_v20 (ix2 0 k) = m ((c : Thread nD τ).loc main_arg2) (ix2 0 k) := by
  unfold V
  after_reads_at

theorem blk1 (c : Dev nD) (t : Fin cfg0.N) (k : Fin 1024) : iblk m c 1 t (ix2 0 k) = m ((c : Thread nD τ).loc main_arg2) (ix2 0 k) := by
  refine Eq.trans (congrArg (V m c main_v20) (?_ : _ = ix2 0 k)) (entry1 m c _)
  blk_ext [idx t]

theorem entry2 (c : Dev nD) (b : Fin 8) (f : Fin 8) (s : Fin 2048) : V m c main_v17 (ix3 b f s) = Ideal.cos (angle (m ((c : Thread nD τ).loc main_arg1)) b s f) := by
  unfold V
  after_reads_at
  rw [angle, Ideal.ofBits_zero_f32, zero_add]

theorem blk2 (c : Dev nD) (t : Fin cfg0.N) (f : Fin 8) (s : Fin 512) :
    iblk m c 2 t (ix3 0 f s) = Ideal.cos (angle (m ((c : Thread nD τ).loc main_arg1)) (bat t) (tok t s) f) := by
  refine Eq.trans (congrArg (V m c main_v17) (?_ : _ = ix3 (bat t) f (tok t s))) (entry2 m c _ _ _)
  blk_ext [idx t, bat, tok]

theorem entry3 (c : Dev nD) (b : Fin 8) (f : Fin 8) (s : Fin 2048) : V m c main_v18 (ix3 b f s) = Ideal.sin (angle (m ((c : Thread nD τ).loc main_arg1)) b s f) := by
  unfold V
  after_reads_at
  rw [angle, Ideal.ofBits_zero_f32, zero_add]

theorem blk3 (c : Dev nD) (t : Fin cfg0.N) (f : Fin 8) (s : Fin 512) :
    iblk m c 3 t (ix3 0 f s) = Ideal.sin (angle (m ((c : Thread nD τ).loc main_arg1)) (bat t) (tok t s) f) := by
  refine Eq.trans (congrArg (V m c main_v18) (?_ : _ = ix3 (bat t) f (tok t s))) (entry3 m c _ _ _)
  blk_ext [idx t, bat, tok]

/-- The column of the in-projection that row `r` of the first product's weights holds; `none` for a padding row. -/
def colOf (r : Fin 1152) : Option (Fin 6228) :=
  if r.val < 512 then some ⟨r, by omega⟩
  else if r.val < 768 then some ⟨1280 + (r - 512), by omega⟩
  else if r.val < 896 then some ⟨512 + (r - 768), by omega⟩
  else if r.val < 960 then some ⟨1536 + (r - 896), by omega⟩
  else if r.val < 964 then some ⟨1600 + (r - 960), by omega⟩
  else if r.val < 968 then none
  else if r.val < 984 then some ⟨4164 + (r - 968), by omega⟩
  else if r.val < 1024 then none
  else some ⟨640 + (r - 1024), by omega⟩

/-- What a buffer holds when the call's entry has run its first `n` operations. -/
abbrev atOp (n : ℕ) (c : Dev nD) (b : Ref sig .tc) : Buf (Elt Ideal) ((c : Thread nD τ).loc b) :=
  StableHlo.upto [hostOps0, hostOps0_1, hostOps0_2, hostOps0_3, hostOps0_4].flatten (fun b => m (c, b)) n (Proc.devRef .tc b)

/-- The weights of the first product, of five parts. -/
theorem join4 (c : Dev nD) : V m c main_v34 = concatenate S1152x1024 0
    [⟨S512x1024, atOp m 42 c main_v24⟩, ⟨S256x1024, atOp m 42 c main_v27⟩, ⟨S128x1024, atOp m 42 c main_v25⟩,
      ⟨S128x1024, atOp m 42 c main_v33⟩, ⟨S128x1024, atOp m 42 c main_v26⟩]
    concatenates_S512x1024_S256x1024_S128x1024_S128x1024_S128x1024_S1152x1024_d0 := by
  unfold V
  after_reads_simp
  rfl

theorem part4q (c : Dev nD) (r : Fin 512) (k : Fin 1024) : atOp m 42 c main_v24 (ix2 r k) = m ((c : Thread nD τ).loc main_arg3) (ix3 0 k ⟨0 + r, by omega⟩) := by
  after_reads_at
  try rfl

theorem part4i (c : Dev nD) (r : Fin 256) (k : Fin 1024) : atOp m 42 c main_v27 (ix2 r k) = m ((c : Thread nD τ).loc main_arg3) (ix3 0 k ⟨1280 + r, by omega⟩) := by
  after_reads_at
  try rfl

theorem part4k (c : Dev nD) (r : Fin 128) (k : Fin 1024) : atOp m 42 c main_v25 (ix2 r k) = m ((c : Thread nD τ).loc main_arg3) (ix3 0 k ⟨512 + r, by omega⟩) := by
  after_reads_at
  try rfl

theorem part4v (c : Dev nD) (r : Fin 128) (k : Fin 1024) : atOp m 42 c main_v26 (ix2 r k) = m ((c : Thread nD τ).loc main_arg3) (ix3 0 k ⟨640 + r, by omega⟩) := by
  after_reads_at
  try rfl

theorem part4ki (c : Dev nD) (r : Fin 64) (k : Fin 1024) : atOp m 38 c main_v28 (ix2 r k) = m ((c : Thread nD τ).loc main_arg3) (ix3 0 k ⟨1536 + r, by omega⟩) := by
  after_reads_at
  try rfl

theorem part4dt (c : Dev nD) (r : Fin 16) (k : Fin 1024) : atOp m 38 c main_v30 (ix2 r k) = m ((c : Thread nD τ).loc main_arg3) (ix3 0 k ⟨4164 + r, by omega⟩) := by
  after_reads_at
  try rfl

theorem zero_bits : (FloatOps.sitofp (F := Ideal) .bf16 (0#32) : EReal) = 0 := by
  show ((((0#32 : BitVec 32).toInt : ℝ)) : EReal) = 0
  simp

theorem part4w (c : Dev nD) (r : Fin 8) (k : Fin 1024) : atOp m 38 c main_v31 (ix2 r k) =
    if h : r.val < 4 then m ((c : Thread nD τ).loc main_arg3) (ix3 0 k ⟨1600 + r, by omega⟩) else (0 : EReal) := by
  after_reads_at
  rw [zero_bits]

theorem join4s (c : Dev nD) : atOp m 42 c main_v33 = pad S128x1024 ![0, 0] ![40, 0] ![0, 0]
    (concatenate S88x1024 0 [⟨S64x1024, atOp m 38 c main_v28⟩, ⟨S8x1024, atOp m 38 c main_v31⟩, ⟨S16x1024, atOp m 38 c main_v30⟩]
      concatenates_S64x1024_S8x1024_S16x1024_S88x1024_d0)
    (sitofp (F := Ideal) .bf16 (constantI S_ 32 0#32)) pads_S88x1024_S128x1024_0400_000 h_S_ := by
  after_reads_simp
  rfl

theorem cat4s (a1 : Vec Ideal S64x1024 .bf16) (a2 : Vec Ideal S8x1024 .bf16) (a3 : Vec Ideal S16x1024 .bf16) (r : Fin 128) (k : Fin 1024) :
    pad S128x1024 ![0, 0] ![40, 0] ![0, 0]
      (concatenate S88x1024 0 [⟨S64x1024, a1⟩, ⟨S8x1024, a2⟩, ⟨S16x1024, a3⟩] concatenates_S64x1024_S8x1024_S16x1024_S88x1024_d0)
      (sitofp (F := Ideal) .bf16 (constantI S_ 32 0#32)) pads_S88x1024_S128x1024_0400_000 h_S_ (ix2 r k) =
    (if h : r.val < 88 then
      if h : r.val < 64 then a1 (ix2 ⟨r, by omega⟩ k)
      else if h : r.val - 64 < 8 then a2 (ix2 ⟨r - 64, by omega⟩ k) else a3 (ix2 ⟨r - 64 - 8, by omega⟩ k)
    else (0 : EReal)) := by
  pointwise
  rw [zero_bits]

theorem cat4 (a1 : Vec Ideal S512x1024 .bf16) (a2 : Vec Ideal S256x1024 .bf16) (a3 a4 a5 : Vec Ideal S128x1024 .bf16) (r : Fin 1152) (k : Fin 1024) :
    concatenate S1152x1024 0 [⟨S512x1024, a1⟩, ⟨S256x1024, a2⟩, ⟨S128x1024, a3⟩, ⟨S128x1024, a4⟩, ⟨S128x1024, a5⟩]
      concatenates_S512x1024_S256x1024_S128x1024_S128x1024_S128x1024_S1152x1024_d0 (ix2 r k) =
    if h : r.val < 512 then a1 (ix2 ⟨r, h⟩ k)
    else if h : r.val - 512 < 256 then a2 (ix2 ⟨r - 512, h⟩ k)
    else if h : r.val - 512 - 256 < 128 then a3 (ix2 ⟨r - 512 - 256, h⟩ k)
    else if h : r.val - 512 - 256 - 128 < 128 then a4 (ix2 ⟨r - 512 - 256 - 128, h⟩ k)
    else a5 (ix2 ⟨r - 512 - 256 - 128 - 128, by omega⟩ k) := by
  pointwise

/-- The fourth part: the index keys, the index weights padded to eight rows, the step sizes, zeros. -/
theorem part4s (c : Dev nD) (r : Fin 128) (k : Fin 1024) : atOp m 42 c main_v33 (ix2 r k) =
    if h : r.val < 64 then m ((c : Thread nD τ).loc main_arg3) (ix3 0 k ⟨1536 + r, by omega⟩)
    else if h : r.val < 68 then m ((c : Thread nD τ).loc main_arg3) (ix3 0 k ⟨1600 + (r - 64), by omega⟩)
    else if h : r.val < 72 then (0 : EReal)
    else if h : r.val < 88 then m ((c : Thread nD τ).loc main_arg3) (ix3 0 k ⟨4164 + (r - 72), by omega⟩)
    else (0 : EReal) := by
  refine (congrFun (join4s m c) _).trans ((cat4s _ _ _ r k).trans ?_)
  have hw := fun h => part4w m c ⟨r.val - 64, h⟩ k
  dsimp only at hw
  split
  · split
    · exact part4ki m c _ _
    · split
      · refine (hw _).trans ?_
        split <;> split <;> first
          | (exfalso; omega)
          | rfl
          | (split <;> first | (exfalso; omega) | rfl)
      · refine (part4dt m c _ _).trans ?_
        rw [dif_neg (by omega), dif_neg (by omega)]
        exact congrArg (fun j => m ((c : Thread nD τ).loc main_arg3) (ix3 0 k j)) (Fin.ext (by dsimp only; omega))
  · repeat' split
    all_goals first
      | (exfalso; omega)
      | rfl

/-- Row `r` of the weights of the first product is column `colOf r` of `w_in`, or zeros. -/
theorem entry4 (c : Dev nD) (r : Fin 1152) (k : Fin 1024) : V m c main_v34 (ix2 r k) = (colOf r).elim (0 : EReal) (fun j => m ((c : Thread nD τ).loc main_arg3) (ix3 0 k j)) := by
  refine (congrFun (join4 m c) _).trans ((cat4 _ _ _ _ _ r k).trans ?_)
  have hs := fun h => part4s m c ⟨r.val - 512 - 256 - 128, h⟩ k
  dsimp only at hs
  unfold colOf
  by_cases h1 : r.val < 512
  · rw [dif_pos h1, if_pos h1]
    exact (part4q m c _ _).trans (congrArg (fun j => m ((c : Thread nD τ).loc main_arg3) (ix3 0 k j)) (Fin.ext (by dsimp only; omega)))
  by_cases h2 : r.val < 768
  · rw [dif_neg h1, if_neg h1, dif_pos (by omega), if_pos h2]; exact part4i m c _ _
  by_cases h3 : r.val < 896
  · rw [dif_neg h1, if_neg h1, dif_neg (by omega), if_neg h2, dif_pos (by omega), if_pos h3]
    exact (part4k m c _ _).trans (congrArg (fun j => m ((c : Thread nD τ).loc main_arg3) (ix3 0 k j)) (Fin.ext (by dsimp only; omega)))
  by_cases h4 : r.val < 1024
  · rw [dif_neg h1, if_neg h1, dif_neg (by omega), if_neg h2, dif_neg (by omega), if_neg h3, dif_pos (by omega)]
    refine (hs _).trans ?_
    repeat' split
    all_goals first
      | (exfalso; omega)
      | rfl
      | exact congrArg (fun j => m ((c : Thread nD τ).loc main_arg3) (ix3 0 k j)) (Fin.ext (by dsimp only; omega))
  · rw [dif_neg h1, if_neg h1, dif_neg (by omega), if_neg h2, dif_neg (by omega), if_neg h3, dif_neg (by omega), if_neg (by omega),
      if_neg (by omega), if_neg (by omega), if_neg (by omega), if_neg h4]
    exact (part4v m c _ _).trans (congrArg (fun j => m ((c : Thread nD τ).loc main_arg3) (ix3 0 k j)) (Fin.ext (by dsimp only; omega)))

theorem blk4 (c : Dev nD) (t : Fin cfg0.N) (r : Fin 1152) (k : Fin 1024) :
    iblk m c 4 t (ix2 r k) = (colOf r).elim (0 : EReal) (fun j => m ((c : Thread nD τ).loc main_arg3) (ix3 0 k j)) := by
  refine Eq.trans (congrArg (V m c main_v34) (?_ : _ = ix2 r k)) (entry4 m c _ _)
  blk_ext [idx t]

end Cert.ProjAttnValue

end
-- ==== Proof.ProjAttnPoint.lean ====
/- The attention part of the projection call at the ideal values: what each of its blocks holds after a grid point, as a
   formula of the arguments. -/
module

public import proofs.«01_k».proof.Proof.ProjAttnStep
public import proofs.«01_k».proof.Proof.ProjAttnBlock
public import proofs.«01_k».proof.Proof.Gen.ProjAttnIdeal.Value
public import Idealize.ShloMosaic.Lib.Pipeline.ReadBack

@[expose] public section

set_option maxRecDepth 16384

noncomputable section

namespace Cert.ProjAttnValue

open Idealize.ShloMosaic Idealize.ShloMosaic.TcCoe Idealize.SL.Sem
open Cert.ProjAttnIdeal Cert.ProjAttnIdeal.Gen Cert.ProjAttnIdeal.Value Cert.ProjValue

variable (m : (ℓ : Loc nD τ sig) → Buf (Elt Ideal) ℓ)

abbrev argX (c : Dev nD) : Vec Ideal S8x2048x1024 .f32 := m ((c : Thread nD τ).loc main_arg0)
abbrev argP (c : Dev nD) : Vec Ideal S8x2048 .i32 := m ((c : Thread nD τ).loc main_arg1)
abbrev argN (c : Dev nD) : Vec Ideal S1x1024 .f32 := m ((c : Thread nD τ).loc main_arg2)
abbrev argW (c : Dev nD) : Vec Ideal S1x1024x6228 .f32 := m ((c : Thread nD τ).loc main_arg3)

theorem hidB_blk (c : Dev nD) (t : Fin cfg0.N) (s : Fin 512) (k : Fin 1024) :
    hidB (iblk m c 0 t) (iblk m c 1 t) s k = hid (argX m c) (argN m c) (bat t) (tok t s) k := by
  unfold hidB hid
  simp only [blk0, blk1]

/-- The product of a grid point, features by tokens. -/
abbrev prod (c : Dev nD) (t : Fin cfg0.N) : FVec Ideal S1152x512 .f32 := k0_pay2 (iblk m c 0 t) (iblk m c 1 t) (iblk m c 4 t)

/-- Column `j` of the in-projection at the tokens of grid point `t`. -/
abbrev col (c : Dev nD) (t : Fin cfg0.N) (s : Fin 512) (j : Fin 6228) : EReal := prj (argX m c) (argN m c) (argW m c) (bat t) (tok t s) j

/-- Row `r` of the product is a column of the in-projection, or zeros. -/
theorem prod_row (c : Dev nD) (t : Fin cfg0.N) (r : Fin 1152) (s : Fin 512) :
    prod m c t (ix2 r s) = (colOf r).elim (0 : EReal) (col m c t s) := by
  refine (pay2_apply _ _ _ r s).trans ?_
  simp only [blk4, hidB_blk]
  cases colOf r with
  | none => simp
  | some j => exact Finset.sum_congr rfl fun k _ => mul_comm _ _

theorem colOf_some (r : Fin 1152) (j : Fin 6228)
    (h : r.val < 512 ∧ j.val = r.val ∨ (512 ≤ r.val ∧ r.val < 768) ∧ j.val = r.val + 768 ∨ (768 ≤ r.val ∧ r.val < 896) ∧ j.val + 256 = r.val ∨
      (896 ≤ r.val ∧ r.val < 964) ∧ j.val = r.val + 640 ∨ (968 ≤ r.val ∧ r.val < 984) ∧ j.val = r.val + 3196 ∨ 1024 ≤ r.val ∧ j.val + 384 = r.val) :
    colOf r = some j := by
  unfold colOf
  have hr : r.val < 1152 := r.isLt
  repeat' split
  all_goals first
    | (exfalso; omega)
    | exact congrArg some (Fin.ext (by dsimp only; omega))

theorem prod_at (c : Dev nD) (t : Fin cfg0.N) (r : Fin 1152) (s : Fin 512) (j : Fin 6228)
    (h : r.val < 512 ∧ j.val = r.val ∨ (512 ≤ r.val ∧ r.val < 768) ∧ j.val = r.val + 768 ∨ (768 ≤ r.val ∧ r.val < 896) ∧ j.val + 256 = r.val ∨
      (896 ≤ r.val ∧ r.val < 964) ∧ j.val = r.val + 640 ∨ (968 ≤ r.val ∧ r.val < 984) ∧ j.val = r.val + 3196 ∨ 1024 ≤ r.val ∧ j.val + 384 = r.val) :
    prod m c t (ix2 r s) = col m c t s j := by
  rw [prod_row, colOf_some r j h]
  rfl

theorem pay3_apply (v : Vec Ideal S1x8x512 .f32) (f : Fin 8) (s : Fin 512) : k0_pay3 v (ix2 f s) = v (ix3 0 f s) := by
  pointwise [k0_pay3]

theorem pay4_apply (v : Vec Ideal S1x8x512 .f32) (f : Fin 8) (s : Fin 512) : k0_pay4 v (ix2 f s) = v (ix3 0 f s) := by
  pointwise [k0_pay4]

/-- The cosines and sines of a grid point. -/
abbrev cosB (c : Dev nD) (t : Fin cfg0.N) : FVec Ideal S8x512 .f32 := k0_pay3 (iblk m c 2 t)
abbrev sinB (c : Dev nD) (t : Fin cfg0.N) : FVec Ideal S8x512 .f32 := k0_pay4 (iblk m c 3 t)

/-- The rotated head whose columns begin at `o`, at a token of grid point `t`. -/
abbrev roped (c : Dev nD) (t : Fin cfg0.N) (s : Fin 512) (o : ℕ) (ho : o + 64 ≤ 6228) (d : Fin 64) : EReal :=
  rope (headAt (argX m c) (argN m c) (argW m c) o ho (bat t) (tok t s)) (angle (argP m c) (bat t) (tok t s)) d

theorem roped_congr (c : Dev nD) (t : Fin cfg0.N) (s : Fin 512) {o o' : ℕ} (ho : o + 64 ≤ 6228) (ho' : o' + 64 ≤ 6228) {d d' : Fin 64}
    (h : o = o') (hd : d.val = d'.val) : roped m c t s o ho d = roped m c t s o' ho' d' := by
  obtain rfl := h; obtain rfl := Fin.ext hd; rfl

/-- A head turned by the grid point's cosines and sines is the rotated head. -/
theorem turn_roped (c : Dev nD) (t : Fin cfg0.N) (s : Fin 512) (p : Fin 64 → EReal) (o : ℕ) (ho : o + 64 ≤ 6228)
    (hp : ∀ d : Fin 64, p d = col m c t s ⟨o + d, by omega⟩) (d : Fin 64) :
    turn p (fun f => cosB m c t (ix2 f s)) (fun f => sinB m c t (ix2 f s)) d = roped m c t s o ho d := by
  have e1 : (fun f => cosB m c t (ix2 f s)) = fun f => Ideal.cos (angle (argP m c) (bat t) (tok t s) f) :=
    funext fun f => (pay3_apply _ f s).trans (blk2 m c t f s)
  have e2 : (fun f => sinB m c t (ix2 f s)) = fun f => Ideal.sin (angle (argP m c) (bat t) (tok t s) f) :=
    funext fun f => (pay4_apply _ f s).trans (blk3 m c t f s)
  have e3 : p = headAt (argX m c) (argN m c) (argW m c) o ho (bat t) (tok t s) := funext hp
  rw [e1, e2, e3]
  exact (rope_eq_turn _ _ _).symm

/-- The queries' block after a grid point: `n` rows from column `o`, rotated head by head and scaled. -/
def rotated (c : Dev nD) (t : Fin cfg0.N) {n : ℕ} (o : ℕ) (hn : o + n ≤ 6228 ∧ n % 64 = 0) (sc : BitVec 32) (y : Shape.Idx ⟨3, ![1, n, 512]⟩) : EReal :=
  roped m c t (y 2) (o + (y 1).val / 64 * 64) (by have h : (y 1).val < n := (y 1).isLt; omega) ⟨(y 1).val % 64, by omega⟩ * Ideal.ofBits .f32 sc

/-- A stored piece of 16 rotated rows is those rows of the block. -/
theorem piece_rotated (c : Dev nD) (t : Fin cfg0.N) {n : ℕ} (o : ℕ) (hn : o + n ≤ 6228 ∧ n % 64 = 0) (sc : BitVec 32)
    (q : FVec Ideal ⟨2, ![n, 512]⟩ .f32) (hq : ∀ (r : Fin n) s, q (ix2 r s) = col m c t s ⟨o + r, by omega⟩) (a a' : ℕ)
    (h : Shape.Slices ⟨2, ![n, 512]⟩ ![a, 0] S8x512) (h' : Shape.Slices ⟨2, ![n, 512]⟩ ![a', 0] S8x512) (ha : a' = a + 8) (h64 : a % 64 = 0 ∧ a + 64 ≤ n)
    (i1 : ∀ b, (![0, a, 0] : Fin 3 → ℕ) b + (![1, 16, 512] : Fin 3 → ℕ) b ≤ Shape.size ⟨3, ![1, n, 512]⟩ b) (x : S1x16x512.Idx) :
    piece q (cosB m c t) (sinB m c t) a a' sc h h' x =
      rotated m c t o hn sc ((Rect.unit (s := ⟨3, ![1, n, 512]⟩) ![0, a, 0] ![1, 16, 512] i1).emb x) := by
  obtain ⟨r, s, rfl⟩ : ∃ (r : Fin 16) (s : Fin 512), x = ix3 0 r s := ⟨x 1, x 2, by idx_vars x; fin_cases x0; rfl⟩
  refine (piece_apply q _ _ a a' sc h h' ha h64.2 r s).trans (congrArg (· * _) ?_)
  refine (turn_roped m c t s _ (o + a) (by omega) (fun d => (hq _ s).trans (prj_congr _ _ _ rfl rfl (by dsimp only; omega))) _).trans ?_
  have hr : r.val < 16 := r.isLt
  have es : ((Rect.unit (s := ⟨3, ![1, n, 512]⟩) ![0, a, 0] ![1, 16, 512] i1).emb (ix3 0 r s)) 2 = s := Fin.ext (by show 0 + 1 * s.val = s.val; omega)
  have er : (((Rect.unit (s := ⟨3, ![1, n, 512]⟩) ![0, a, 0] ![1, 16, 512] i1).emb (ix3 0 r s)) 1).val = a + r.val := by show a + 1 * r.val = a + r.val; omega
  rw [es]
  exact roped_congr m c t s _ _ (by omega) (by dsimp only; omega)

/-- Past the 16 rotated rows of its head, the block holds the columns scaled. -/
theorem rotated_past (c : Dev nD) (t : Fin cfg0.N) {n : ℕ} (o : ℕ) (hn : o + n ≤ 6228 ∧ n % 64 = 0) (sc : BitVec 32) (r : Fin n) (s : Fin 512) (hr : 16 ≤ r.val % 64) :
    rotated m c t o hn sc (ix3 0 r s) = col m c t s ⟨o + r, by omega⟩ * Ideal.ofBits .f32 sc := by
  unfold rotated roped rope headAt
  refine congrArg (· * _) ?_
  rw [dif_neg (by show ¬ r.val % 64 < 16; omega)]
  exact prj_congr _ _ _ rfl rfl (by show o + r.val / 64 * 64 + r.val % 64 = o + r.val; omega)

/-- The queries' block: eight heads. -/
theorem out5 (c : Dev nD) (t : Fin cfg0.N) (r s : Fin 512) : (outsAt0 m c t).1 (ix3 0 r s) =
    rotated m c t (n := 512) 0 (by decide) 0x3E38AA3B#32 (ix3 0 r s) := by
  unfold outsAt0
  dsimp only
  frame_out
  by_cases h : r.val % 64 < 16
  · refine View.canon_append_of_piecesOf (Val := Elt Ideal) (s := S1x512x512) (e := .bf16) (rotated m c t (n := 512) 0 (by decide) 0x3E38AA3B#32) [_] [_, _, _, _, _, _, _, _]
      ⟨?_, ?_, ?_, ?_, ?_, ?_, ?_, ?_, trivial⟩ _ ?_
    iterate 8
      · intro x
        exact piece_rotated m c t 0 (by decide) 0x3E38AA3B#32 (k0_pay5 (iblk m c 0 t) (iblk m c 1 t) (iblk m c 4 t))
          (fun r s => (pay5_apply _ _ _ r s).trans (prod_at m c t _ s _ (by dsimp only; omega))) _ _ (by decide) (by decide) (by decide) (by decide) (by decide) x
    simp only [List.exists_mem_cons_iff, Rect.mem_set_unit]
    simp [Fin.forall_fin_succ]
    omega
  · iterate 8 rw [View.canon_cons_of_not_mem _ _ (by simp [Rect.mem_set_unit, Fin.forall_fin_succ]; omega)]
    refine (congrFun (View.canon_unit_zero (by decide) _ _) _).trans ((pay6_apply _ _ _ r s).trans ?_)
    refine Eq.trans (congrArg (· * _) (prod_at m c t _ s _ ?_)) (rotated_past m c t 0 (by decide) 0x3E38AA3B#32 r s (by omega)).symm
    dsimp only
    omega

/-- The index queries' block: four heads. -/
theorem out6 (c : Dev nD) (t : Fin cfg0.N) (r : Fin 256) (s : Fin 512) : (outsAt0 m c t).2.1 (ix3 0 r s) =
    rotated m c t (n := 256) 1280 (by decide) 0x3E000000#32 (ix3 0 r s) := by
  unfold outsAt0
  dsimp only
  frame_out
  by_cases h : r.val % 64 < 16
  · refine View.canon_append_of_piecesOf (Val := Elt Ideal) (s := S1x256x512) (e := .bf16) (rotated m c t (n := 256) 1280 (by decide) 0x3E000000#32) [_] [_, _, _, _]
      ⟨?_, ?_, ?_, ?_, trivial⟩ _ ?_
    iterate 4
      · intro x
        exact piece_rotated m c t 1280 (by decide) 0x3E000000#32 (k0_pay24 (prod m c t))
          (fun r s => (pay24_apply _ r s).trans (prod_at m c t _ s _ (by dsimp only; omega))) _ _ (by decide) (by decide) (by decide) (by decide) (by decide) x
    simp only [List.exists_mem_cons_iff, Rect.mem_set_unit]
    simp [Fin.forall_fin_succ]
    omega
  · iterate 4 rw [View.canon_cons_of_not_mem _ _ (by simp [Rect.mem_set_unit, Fin.forall_fin_succ]; omega)]
    refine (congrFun (View.canon_unit_zero (by decide) _ _) _).trans ((pay25_apply _ r s).trans ?_)
    refine Eq.trans (congrArg (· * _) (prod_at m c t _ s _ ?_)) (rotated_past m c t 1280 (by decide) 0x3E000000#32 r s (by omega)).symm
    dsimp only
    omega

/-- The index weights' block: four rows, then four of zeros. -/
theorem out7 (c : Dev nD) (t : Fin cfg0.N) (r : Fin 8) (s : Fin 512) : (outsAt0 m c t).2.2.1 (ix3 0 r s) =
    if h : r.val < 4 then col m c t s ⟨1600 + r, by omega⟩ * Ideal.ofBits .f32 0x3F000000#32 else 0 := by
  unfold outsAt0
  dsimp only
  frame_out
  refine (pay32_apply _ r s).trans ?_
  split
  · exact congrArg (· * _) (prod_at m c t _ s _ (by dsimp only; omega))
  · have e : colOf ⟨960 + r.val, by omega⟩ = none := by
      unfold colOf
      repeat' split
      all_goals first
        | rfl
        | (exfalso; dsimp only at *; omega)
    have e0 : prod m c t (ix2 ⟨960 + r.val, by omega⟩ s) = 0 := by rw [prod_row, e]; rfl
    exact (congrArg (· * _) e0).trans (zero_mul _)

/-- The step sizes' block. -/
theorem out8 (c : Dev nD) (t : Fin cfg0.N) (r : Fin 16) (s : Fin 512) : (outsAt0 m c t).2.2.2.1 (ix3 0 r s) = col m c t s ⟨4164 + r, by omega⟩ := by
  unfold outsAt0
  dsimp only
  frame_out
  exact (pay33_apply _ r s).trans (prod_at m c t _ s _ (by dsimp only; omega))

/-- The values' block: the rows of each of the two heads, then sixteen of ones. -/
def values (c : Dev nD) (t : Fin cfg0.N) (y : S1x160x512.Idx) : EReal :=
  if h : (y 1).val % 80 < 64 then col m c t (y 2) ⟨640 + ((y 1).val / 80 * 64 + (y 1).val % 80), by have h : (y 1).val < 160 := (y 1).isLt; omega⟩ else 1

theorem values_head (c : Dev nD) (t : Fin cfg0.N) (a : ℕ) (p : FVec Ideal S1x64x512 .bf16) (j : ℕ) (ha : a = 0 ∧ j = 640 ∨ a = 80 ∧ j = 704)
    (i1 : ∀ b, (![0, a, 0] : Fin 3 → ℕ) b + (![1, 64, 512] : Fin 3 → ℕ) b ≤ S1x160x512.size b)
    (hp : ∀ (r : Fin 64) (s : Fin 512), p (ix3 0 r s) = col m c t s ⟨j + r, by omega⟩) (x : S1x64x512.Idx) :
    p x = values m c t ((Rect.unit (s := S1x160x512) ![0, a, 0] ![1, 64, 512] i1).emb x) := by
  obtain ⟨r, s, rfl⟩ : ∃ (r : Fin 64) (s : Fin 512), x = ix3 0 r s := ⟨x 1, x 2, by idx_vars x; fin_cases x0; rfl⟩
  have hr : r.val < 64 := r.isLt
  have es : ((Rect.unit (s := S1x160x512) ![0, a, 0] ![1, 64, 512] i1).emb (ix3 0 r s)) 2 = s := Fin.ext (by show 0 + 1 * s.val = s.val; omega)
  have er : (((Rect.unit (s := S1x160x512) ![0, a, 0] ![1, 64, 512] i1).emb (ix3 0 r s)) 1).val = a + r.val := by show a + 1 * r.val = a + r.val; omega
  unfold values
  rw [dif_pos (by omega), es, hp]
  exact prj_congr _ _ _ rfl rfl (by dsimp only; omega)

theorem values_ones (c : Dev nD) (t : Fin cfg0.N) (a : ℕ) (p : FVec Ideal S1x16x512 .bf16) (ha : a = 64 ∨ a = 144)
    (i1 : ∀ b, (![0, a, 0] : Fin 3 → ℕ) b + (![1, 16, 512] : Fin 3 → ℕ) b ≤ S1x160x512.size b)
    (hp : ∀ (r : Fin 16) (s : Fin 512), p (ix3 0 r s) = 1) (x : S1x16x512.Idx) :
    p x = values m c t ((Rect.unit (s := S1x160x512) ![0, a, 0] ![1, 16, 512] i1).emb x) := by
  obtain ⟨r, s, rfl⟩ : ∃ (r : Fin 16) (s : Fin 512), x = ix3 0 r s := ⟨x 1, x 2, by idx_vars x; fin_cases x0; rfl⟩
  have hr : r.val < 16 := r.isLt
  have er : (((Rect.unit (s := S1x160x512) ![0, a, 0] ![1, 16, 512] i1).emb (ix3 0 r s)) 1).val = a + r.val := by show a + 1 * r.val = a + r.val; omega
  unfold values
  rw [dif_neg (by omega), hp]

theorem out9 (c : Dev nD) (t : Fin cfg0.N) (r : Fin 160) (s : Fin 512) : (outsAt0 m c t).2.2.2.2.1 (ix3 0 r s) =
    if h : r.val % 80 < 64 then col m c t s ⟨640 + (r / 80 * 64 + r % 80), by omega⟩ else 1 := by
  unfold outsAt0
  dsimp only
  frame_out
  refine (View.canon_append_of_piecesOf (Val := Elt Ideal) (s := S1x160x512) (e := .bf16) (values m c t) [] [_, _, _, _] ⟨?_, ?_, ?_, ?_, trivial⟩ _ ?_).trans rfl
  · exact values_ones m c t 144 (k0_pay35 (F := Ideal)) (by decide) (by decide) fun r s => pay35_apply r s
  · exact values_head m c t 80 (k0_pay36 (prod m c t)) 704 (by decide) (by decide) fun r s => (pay36_apply _ r s).trans (prod_at m c t _ s _ (by dsimp only; omega))
  · exact values_ones m c t 64 (k0_pay35 (F := Ideal)) (by decide) (by decide) fun r s => pay35_apply r s
  · exact values_head m c t 0 (k0_pay34 (prod m c t)) 640 (by decide) (by decide) fun r s => (pay34_apply _ r s).trans (prod_at m c t _ s _ (by dsimp only; omega))
  · simp only [List.exists_mem_cons_iff, Rect.mem_set_unit]
    simp [Fin.forall_fin_succ]
    omega

/-- The keys' block. -/
theorem out10 (c : Dev nD) (t : Fin cfg0.N) (s : Fin 512) (r : Fin 128) : (outsAt0 m c t).2.2.2.2.2.1 (ix3 0 s r) =
    roped m c t s (512 + r / 64 * 64) (by omega) ⟨r % 64, by omega⟩ := by
  unfold outsAt0
  dsimp only
  frame_out
  exact (pay39_apply _ _ _ s r).trans (turn_roped m c t s _ _ _ (fun d => prod_at m c t _ s _ (by dsimp only; omega)) _)

/-- The index keys' block. -/
theorem out11 (c : Dev nD) (t : Fin cfg0.N) (s : Fin 512) (r : Fin 64) : (outsAt0 m c t).2.2.2.2.2.2 (ix3 0 s r) =
    roped m c t s 1536 (by omega) r := by
  unfold outsAt0
  dsimp only
  frame_out
  exact (pay1_apply _ _ _ s r).trans (turn_roped m c t s _ _ _ (fun d => prod_at m c t _ s _ (by dsimp only; omega)) _)

end Cert.ProjAttnValue

end
-- ==== Proof.ProjAttnValue.lean ====
/- The attention part of the projection call at the ideal values: each result of the call is the reference's. -/
module

public import proofs.«01_k».proof.Proof.ProjAttnPoint

@[expose] public section

set_option maxRecDepth 16384

noncomputable section

namespace Cert.ProjAttnValue

open Idealize.ShloMosaic Idealize.ShloMosaic.TcCoe Idealize.SL.Sem
open Cert.ProjAttnIdeal Cert.ProjAttnIdeal.Gen Cert.ProjAttnIdeal.Value Cert.ProjAttnRefIdeal.Read Cert.ProjValue

variable (m : (ℓ : Loc nD τ sig) → Buf (Elt Ideal) ℓ)

theorem emb5 (t : Fin cfg0.N) (r : Fin 512) (s : Fin 512) : ((cfg0.win 5).blk t).view.emb (ix3 0 r s) = ix3 (bat t) r (tok t s) := by
  blk_ext [idxo t, bat, tok]

/-- The queries. -/
theorem result5 (c : Dev nD) : (dats m 0 c).arrAt 5 cfg0.N = val_main_v116 (F := Ideal) (argX m c) (argP m c) (argN m c) (argW m c) := by
  refine (dats m 0 c).arrAt_eq_of_covers 5 _ (by decide +kernel) fun t hf y => ?_
  blk_simp
  rw [after0_5]
  obtain ⟨r, s, hy⟩ : ∃ (r : Fin 512) (s : Fin 512), y = ix3 0 r s := ⟨y 1, y 2, by idx_vars y; fin_cases y0; rfl⟩
  subst hy
  refine (out5 m c t r s).trans (Eq.trans (congrArg (· * _) ?_) ((congrArg (val_main_v116 (F := Ideal) (argX m c) (argP m c) (argN m c) (argW m c)) (emb5 t r s)).trans (v116_apply _ _ _ _ (bat t) (tok t s) r)).symm)
  exact roped_congr m c t s _ _ (by show 0 + r.val / 64 * 64 = r.val / 64 * 64; omega) rfl

theorem emb6 (t : Fin cfg0.N) (r : Fin 256) (s : Fin 512) : ((cfg0.win 6).blk t).view.emb (ix3 0 r s) = ix3 (bat t) r (tok t s) := by
  blk_ext [idxo t, bat, tok]

/-- The index queries. -/
theorem result6 (c : Dev nD) : (dats m 0 c).arrAt 6 cfg0.N = val_main_v121 (F := Ideal) (argX m c) (argP m c) (argN m c) (argW m c) := by
  refine (dats m 0 c).arrAt_eq_of_covers 6 _ (by decide +kernel) fun t hf y => ?_
  blk_simp
  rw [after0_6]
  obtain ⟨r, s, hy⟩ : ∃ (r : Fin 256) (s : Fin 512), y = ix3 0 r s := ⟨y 1, y 2, by idx_vars y; fin_cases y0; rfl⟩
  subst hy
  refine (out6 m c t r s).trans (Eq.trans (congrArg (· * _) ?_) ((congrArg (val_main_v121 (F := Ideal) (argX m c) (argP m c) (argN m c) (argW m c)) (emb6 t r s)).trans (v121_apply _ _ _ _ (bat t) (tok t s) r)).symm)
  exact roped_congr m c t s _ _ rfl rfl

theorem emb7 (t : Fin cfg0.N) (r : Fin 8) (s : Fin 512) : ((cfg0.win 7).blk t).view.emb (ix3 0 r s) = ix3 (bat t) r (tok t s) := by
  blk_ext [idxo t, bat, tok]

/-- The index weights. -/
theorem result7 (c : Dev nD) : (dats m 0 c).arrAt 7 cfg0.N = val_main_v125 (F := Ideal) (argX m c) (argN m c) (argW m c) := by
  refine (dats m 0 c).arrAt_eq_of_covers 7 _ (by decide +kernel) fun t hf y => ?_
  blk_simp
  rw [after0_7]
  obtain ⟨r, s, hy⟩ : ∃ (r : Fin 8) (s : Fin 512), y = ix3 0 r s := ⟨y 1, y 2, by idx_vars y; fin_cases y0; rfl⟩
  subst hy
  exact (out7 m c t r s).trans ((congrArg (val_main_v125 (F := Ideal) (argX m c) (argN m c) (argW m c)) (emb7 t r s)).trans (v125_apply _ _ _ (bat t) r (tok t s))).symm

theorem emb8 (t : Fin cfg0.N) (r : Fin 16) (s : Fin 512) : ((cfg0.win 8).blk t).view.emb (ix3 0 r s) = ix3 (bat t) r (tok t s) := by
  blk_ext [idxo t, bat, tok]

/-- The step sizes. -/
theorem result8 (c : Dev nD) : (dats m 0 c).arrAt 8 cfg0.N = val_main_v126 (F := Ideal) (argX m c) (argN m c) (argW m c) := by
  refine (dats m 0 c).arrAt_eq_of_covers 8 _ (by decide +kernel) fun t hf y => ?_
  blk_simp
  rw [after0_8]
  obtain ⟨r, s, hy⟩ : ∃ (r : Fin 16) (s : Fin 512), y = ix3 0 r s := ⟨y 1, y 2, by idx_vars y; fin_cases y0; rfl⟩
  subst hy
  exact (out8 m c t r s).trans ((congrArg (val_main_v126 (F := Ideal) (argX m c) (argN m c) (argW m c)) (emb8 t r s)).trans (v126_apply _ _ _ (bat t) r (tok t s))).symm

theorem emb9 (t : Fin cfg0.N) (r : Fin 160) (s : Fin 512) : ((cfg0.win 9).blk t).view.emb (ix3 0 r s) = ix3 (bat t) r (tok t s) := by
  blk_ext [idxo t, bat, tok]

/-- The values. -/
theorem result9 (c : Dev nD) : (dats m 0 c).arrAt 9 cfg0.N = val_main_v130 (F := Ideal) (argX m c) (argN m c) (argW m c) := by
  refine (dats m 0 c).arrAt_eq_of_covers 9 _ (by decide +kernel) fun t hf y => ?_
  blk_simp
  rw [after0_9]
  obtain ⟨r, s, hy⟩ : ∃ (r : Fin 160) (s : Fin 512), y = ix3 0 r s := ⟨y 1, y 2, by idx_vars y; fin_cases y0; rfl⟩
  subst hy
  exact (out9 m c t r s).trans ((congrArg (val_main_v130 (F := Ideal) (argX m c) (argN m c) (argW m c)) (emb9 t r s)).trans (v130_apply _ _ _ (bat t) r (tok t s))).symm

theorem emb10 (t : Fin cfg0.N) (s : Fin 512) (r : Fin 128) : ((cfg0.win 10).blk t).view.emb (ix3 0 s r) = ix3 (bat t) (tok t s) r := by
  blk_ext [idxo t, bat, tok]

/-- The keys. -/
theorem result10 (c : Dev nD) : (dats m 0 c).arrAt 10 cfg0.N = val_main_v132 (F := Ideal) (argX m c) (argP m c) (argN m c) (argW m c) := by
  refine (dats m 0 c).arrAt_eq_of_covers 10 _ (by decide +kernel) fun t hf y => ?_
  blk_simp
  rw [after0_10]
  obtain ⟨s, r, hy⟩ : ∃ (s : Fin 512) (r : Fin 128), y = ix3 0 s r := ⟨y 1, y 2, by idx_vars y; fin_cases y0; rfl⟩
  subst hy
  exact (out10 m c t s r).trans ((congrArg (val_main_v132 (F := Ideal) (argX m c) (argP m c) (argN m c) (argW m c)) (emb10 t s r)).trans (v132_apply _ _ _ _ (bat t) (tok t s) r)).symm

theorem emb11 (t : Fin cfg0.N) (s : Fin 512) (r : Fin 64) : ((cfg0.win 11).blk t).view.emb (ix3 0 s r) = ix3 (bat t) (tok t s) r := by
  blk_ext [idxo t, bat, tok]

/-- The index keys. -/
theorem result11 (c : Dev nD) : (dats m 0 c).arrAt 11 cfg0.N = val_main_v133 (F := Ideal) (argX m c) (argP m c) (argN m c) (argW m c) := by
  refine (dats m 0 c).arrAt_eq_of_covers 11 _ (by decide +kernel) fun t hf y => ?_
  blk_simp
  rw [after0_11]
  obtain ⟨s, r, hy⟩ : ∃ (s : Fin 512) (r : Fin 64), y = ix3 0 s r := ⟨y 1, y 2, by idx_vars y; fin_cases y0; rfl⟩
  subst hy
  exact (out11 m c t s r).trans ((congrArg (val_main_v133 (F := Ideal) (argX m c) (argP m c) (argN m c) (argW m c)) (emb11 t s r)).trans (v133_apply _ _ _ _ (bat t) (tok t s) r)).symm

end Cert.ProjAttnValue

end
-- ==== Proof.ProjSsmStep.lean ====
/- The second part of the projection call at the ideal values, one grid point at a time: what its blocks hold as formulas of the blocks it reads. -/
module

public import proofs.«01_k».proof.Proof.Gen.ProjSsmIdeal.Skeleton
public import proofs.«01_k».proof.Proof.ProjCommon
public import Idealize.ShloMosaic.Lib.Pointwise
public import Idealize.ShloMosaic.Lib.KernelVsHost

@[expose] public section

set_option maxRecDepth 16384

noncomputable section

namespace Cert.ProjSsmValue

open Idealize.ShloMosaic Idealize.ShloMosaic.TcCoe Idealize.SL.Sem
open Cert.ProjSsmIdeal Cert.ProjSsmIdeal.Gen Cert.ProjValue

theorem pay5_apply (x0 : Vec Ideal S1x512x1024 .f32) (x1 : Vec Ideal S1x1024 .f32) (s : Fin 512) (k : Fin 1024) :
    k0_pay5 x0 x1 (ix2 s k) = hidB x0 x1 s k := by
  pointwise [k0_pay5]
  rfl

section Stores
variable (h : FVec Ideal S512x1024 .bf16)

theorem pay2_apply (w : Vec Ideal S1024x512 .bf16) (s : Fin 512) (c : Fin 512) :
    k0_pay2 h w (ix3 0 s c) = ∑ k, h (ix2 s k) * w (ix2 k c) := by
  pointwise [k0_pay2]

theorem pay1_apply (w : Vec Ideal S1024x2048 .bf16) (s : Fin 512) (c : Fin 2048) :
    k0_pay1 (k0_pay112 h w) (ix3 0 s c) = ∑ k, h (ix2 s k) * w (ix2 k c) := by
  pointwise [k0_pay1, k0_pay112]

theorem pay20_apply (w : Vec Ideal S256x1024 .bf16) (r : Fin 256) (s : Fin 512) :
    k0_pay20 h w (ix2 r s) = ∑ k, w (ix2 r k) * h (ix2 s k) := by
  pointwise [k0_pay20]

theorem pay3_apply (i : S1024x128.Idx) : k0_pay3 (F := Ideal) i = 0 := by
  idx_vars i
  pointwise [k0_pay3]

theorem pay4_apply (i : S512x128.Idx) : k0_pay4 (F := Ideal) i = 0 := by
  idx_vars i
  pointwise [k0_pay4]

end Stores

/-- Columns `n` tokens behind column `l` of a row, of which the last `128` columns of the block before are `tl`. -/
def behind (X : Fin 512 → EReal) (tl : Fin 128 → EReal) (n : ℕ) (l : Fin 512) : EReal :=
  if h : n ≤ l.val then X ⟨l - n, by omega⟩ else tl ⟨(128 - n + l) % 128, by omega⟩

/-- The causal convolution of one row of a block. -/
def convolved (X : Fin 512 → EReal) (tl : Fin 128 → EReal) (w0 w1 w2 w3 b : EReal) (l : Fin 512) : EReal :=
  X l * w3 + b + behind X tl 1 l * w2 + behind X tl 2 l * w1 + behind X tl 3 l * w0

/-- A strip of 256 rows moved `n` columns to the right, the columns before it taken from `tl`. -/
def moved (n : BitVec 32) (X : FVec Ideal S256x512 .f32) (tl : Vec Ideal S256x128 .f32) : FVec Ideal S256x512 .f32 :=
  concatenate S256x512 1 [⟨S256x128, select (cmpi .slt (iota .tc S256x128 32 [1] iota_S256x128_d1_w32) (broadcast S256x128 n))
      (dynamicRotate 1 n none tl rotates_S256x128_d1)
      (extractStridedSlice S256x128 ![0, 0] (dynamicRotate 1 n none X rotates_S256x512_d1) slices_S256x512_o0_0_S256x128)⟩,
    ⟨S256x384, extractStridedSlice S256x384 ![0, 128] (dynamicRotate 1 n none X rotates_S256x512_d1) slices_S256x512_o0_128_S256x384⟩]
    concatenates_S256x128_S256x384_S256x512_d1

/-- A strip of 256 rows and 128 columns laid four times side by side. -/
def four (w : FVec Ideal S256x128 .f32) : FVec Ideal S256x512 .f32 :=
  concatenate S256x512 1 [⟨S256x128, w⟩, ⟨S256x128, w⟩, ⟨S256x128, w⟩, ⟨S256x128, w⟩] concatenates_S256x128_S256x128_S256x128_S256x128_S256x512_d1

/-- The convolved strip, before its activation. -/
def strip (X : FVec Ideal S256x512 .f32) (tl : Vec Ideal S256x128 .f32) (w0 w1 w2 w3 : Vec Ideal S1x256x128 .f32)
    (b : Vec Ideal S256x128 .f32) : FVec Ideal S256x512 .f32 :=
  let c := fun w : Vec Ideal S1x256x128 .f32 => four (shapeCast S256x128 w shapeCasts_S1x256x128_S256x128)
  addf (addf (addf (addf (mulf X (c w3)) (four (shapeCast S256x128 b shapeCasts_S256x128_S256x128)))
    (mulf (moved 1#32 X tl) (c w2))) (mulf (moved 2#32 X tl) (c w1))) (mulf (moved 3#32 X tl) (c w0))

theorem four_apply (w : FVec Ideal S256x128 .f32) (r : Fin 256) (l : Fin 512) : four w (ix2 r l) = w (ix2 r ⟨l % 128, by omega⟩) := by
  pointwise [four]
  split_ifs <;> refine congrArg w ?_ <;> idx_ext <;> omega

theorem rot_apply {n : ℕ} (k : BitVec 32) (X : FVec Ideal ⟨2, ![256, n]⟩ .f32) (h : Shape.Rotates ⟨2, ![256, n]⟩ 1 none) (r : Fin 256) (l l' : Fin n)
    (hl : l'.val = (l.val + n - k.toNat % n) % n) : dynamicRotate 1 k none X h (ix2 r l) = X (ix2 r l') := by
  refine dynamicRotate_apply _ _ _ _ _ _ fun b => ?_
  match b with
  | ⟨0, _⟩ => rfl
  | ⟨1, _⟩ => exact hl

theorem moved_apply (n : ℕ) (hn : n = 1 ∨ n = 2 ∨ n = 3) (X : FVec Ideal S256x512 .f32) (tl : Vec Ideal S256x128 .f32) (r : Fin 256) (l : Fin 512) :
    moved (BitVec.ofNat 32 n) X tl (ix2 r l) = behind (fun l => X (ix2 r l)) (fun l => tl (ix2 r l)) n l := by
  have hX : ∀ l : Fin 512, dynamicRotate 1 (BitVec.ofNat 32 n) none X rotates_S256x512_d1 (ix2 r l) = X (ix2 r ⟨(l + 512 - n) % 512, by omega⟩) := fun l =>
    rot_apply _ _ _ _ _ _ (by rcases hn with rfl | rfl | rfl <;> rfl)
  have ht : ∀ l : Fin 128, dynamicRotate 1 (BitVec.ofNat 32 n) none tl rotates_S256x128_d1 (ix2 r l) = tl (ix2 r ⟨(l + 128 - n) % 128, by omega⟩) := fun l =>
    rot_apply _ _ _ _ _ _ (by rcases hn with rfl | rfl | rfl <;> rfl)
  unfold behind
  pointwise [moved]
  have hl : l.val < 512 := l.isLt
  by_cases h1 : l.val < 128
  · have hc : IntOp.cmpi CmpIPredicate.slt (BitVec.ofNat 32 l.val) (BitVec.ofNat 32 n) = if l.val < n then 1 else 0 := by
      rcases hn with rfl | rfl | rfl <;> interval_cases l.val <;> rfl
    rw [dif_pos h1, hc]
    unfold Scalar.select
    by_cases h2 : n ≤ l.val
    · rw [dif_pos h2, if_neg (by rw [if_neg (by omega)]; decide)]
      refine congrArg X (congrArg (ix2 r) (Fin.ext ?_))
      rcases hn with rfl | rfl | rfl <;> simp <;> omega
    · rw [dif_neg h2, if_pos (by rw [if_pos (by omega)])]
      refine congrArg tl (congrArg (ix2 r) (Fin.ext ?_))
      rcases hn with rfl | rfl | rfl <;> simp <;> omega
  · rw [dif_neg h1, dif_pos (show n ≤ l.val by omega)]
    refine congrArg X (congrArg (ix2 r) (Fin.ext ?_))
    rcases hn with rfl | rfl | rfl <;> simp <;> omega

theorem strip_apply (X : FVec Ideal S256x512 .f32) (tl : Vec Ideal S256x128 .f32) (w0 w1 w2 w3 : Vec Ideal S1x256x128 .f32)
    (b : Vec Ideal S256x128 .f32) (r : Fin 256) (l : Fin 512) :
    strip X tl w0 w1 w2 w3 b (ix2 r l) = convolved (fun l => X (ix2 r l)) (fun l => tl (ix2 r l)) (w0 (ix3 0 r ⟨l % 128, by omega⟩))
      (w1 (ix3 0 r ⟨l % 128, by omega⟩)) (w2 (ix3 0 r ⟨l % 128, by omega⟩)) (w3 (ix3 0 r ⟨l % 128, by omega⟩)) (b (ix2 r ⟨l % 128, by omega⟩)) l := by
  have h1 := moved_apply 1 (by simp) X tl r l
  have h2 := moved_apply 2 (by simp) X tl r l
  have h3 := moved_apply 3 (by simp) X tl r l
  unfold convolved
  rw [← h1, ← h2, ← h3]
  pointwise [strip, four_apply]

/-- One chunk of 128 columns of a strip of 256 rows, as the call stores it: the columns from `o`. -/
def chunk {φ : FTy} (X : FVec Ideal S256x512 φ) (o : ℕ) (hs : S256x512.Slices ![0, o] S256x128) : FVec Ideal S1x1x256x128 φ :=
  shapeCast S1x1x256x128 (extractStridedSlice S256x128 ![0, o] X hs) shapeCasts_S256x128_S1x1x256x128

theorem chunk_apply {φ : FTy} (X : FVec Ideal S256x512 φ) (o : ℕ) (hs : S256x512.Slices ![0, o] S256x128) (ho : o + 128 ≤ 512)
    (r : Fin 256) (l : Fin 128) : chunk X o hs (ix4 0 0 r l) = X (ix2 r ⟨o + l, by omega⟩) := by
  pointwise [chunk]

/-- A strip of 256 rows after its silu. -/
def activated (X : FVec Ideal S256x512 .f32) : FVec Ideal S256x512 .f32 := mulf X (logistic X)

theorem activated_apply (X : FVec Ideal S256x512 .f32) (r : Fin 256) (l : Fin 512) : activated X (ix2 r l) = X (ix2 r l) * Ideal.logistic (X (ix2 r l)) := rfl

/-- One chunk of 128 columns of the activated strip, as the call stores it. -/
def stored (X : FVec Ideal S256x512 .f32) (o : ℕ) (hs : S256x512.Slices ![0, o] S256x128) : FVec Ideal S1x1x256x128 .bf16 :=
  shapeCast S1x1x256x128 (truncf .bf16 (extractStridedSlice S256x128 ![0, o] X hs) bitsLt_bf16_f32) shapeCasts_S256x128_S1x1x256x128

theorem stored_apply (X : FVec Ideal S256x512 .f32) (o : ℕ) (hs : S256x512.Slices ![0, o] S256x128) (ho : o + 128 ≤ 512)
    (r : Fin 256) (l : Fin 128) : stored X o hs (ix4 0 0 r l) = X (ix2 r ⟨o + l, by omega⟩) := by
  pointwise [stored]

theorem pay13_apply (X : FVec Ideal S256x512 .f32) (r : Fin 256) (l : Fin 128) : k0_pay13 X (ix2 r l) = X (ix2 r ⟨384 + l, by omega⟩) := by
  pointwise [k0_pay13]

theorem pay100_apply (X : FVec Ideal S256x512 .f32) (s : Fin 512) (r : Fin 256) : k0_pay100 X (ix3 0 s r) = X (ix2 r s) := by
  pointwise [k0_pay100]

/-- The products of the later strips are computed as that of the first z rows. -/
theorem products_eq : k0_pay26 (F := Ideal) = k0_pay20 ∧
    k0_pay40 (F := Ideal) = k0_pay20 ∧
    k0_pay46 (F := Ideal) = k0_pay20 ∧
    k0_pay60 (F := Ideal) = k0_pay20 ∧
    k0_pay66 (F := Ideal) = k0_pay20 ∧
    k0_pay80 (F := Ideal) = k0_pay20 ∧
    k0_pay86 (F := Ideal) = k0_pay20 ∧
    k0_pay101 (F := Ideal) = k0_pay20 ∧
    k0_pay47 (F := Ideal) = k0_pay27 ∧
    k0_pay67 (F := Ideal) = k0_pay27 ∧
    k0_pay87 (F := Ideal) = k0_pay27 :=
  ⟨rfl, rfl, rfl, rfl, rfl, rfl, rfl, rfl, rfl, rfl, rfl⟩

/-- The later strips of z rows are stored as the first. -/
theorem chunks_eq : k0_pay41 (F := Ideal) = k0_pay21 ∧
    k0_pay42 (F := Ideal) = k0_pay22 ∧
    k0_pay43 (F := Ideal) = k0_pay23 ∧
    k0_pay44 (F := Ideal) = k0_pay24 ∧
    k0_pay45 (F := Ideal) = k0_pay25 ∧
    k0_pay61 (F := Ideal) = k0_pay21 ∧
    k0_pay62 (F := Ideal) = k0_pay22 ∧
    k0_pay63 (F := Ideal) = k0_pay23 ∧
    k0_pay64 (F := Ideal) = k0_pay24 ∧
    k0_pay65 (F := Ideal) = k0_pay25 ∧
    k0_pay81 (F := Ideal) = k0_pay21 ∧
    k0_pay82 (F := Ideal) = k0_pay22 ∧
    k0_pay83 (F := Ideal) = k0_pay23 ∧
    k0_pay84 (F := Ideal) = k0_pay24 ∧
    k0_pay85 (F := Ideal) = k0_pay25 :=
  ⟨rfl, rfl, rfl, rfl, rfl, rfl, rfl, rfl, rfl, rfl, rfl, rfl, rfl, rfl, rfl⟩

/-- The later convolved strips are computed and stored as the first. -/
theorem strips_eq : k0_pay28 (F := Ideal) = k0_pay8 ∧
    k0_pay29 (F := Ideal) = k0_pay9 ∧
    k0_pay30 = k0_pay10 ∧
    k0_pay31 (F := Ideal) = k0_pay11 ∧
    k0_pay32 (F := Ideal) = k0_pay12 ∧
    k0_pay33 (F := Ideal) = k0_pay13 ∧
    k0_pay34 (F := Ideal) = k0_pay14 ∧
    k0_pay35 (F := Ideal) = k0_pay15 ∧
    k0_pay36 (F := Ideal) = k0_pay16 ∧
    k0_pay37 (F := Ideal) = k0_pay17 ∧
    k0_pay38 (F := Ideal) = k0_pay18 ∧
    k0_pay39 (F := Ideal) = k0_pay19 ∧
    k0_pay48 (F := Ideal) = k0_pay8 ∧
    k0_pay49 (F := Ideal) = k0_pay9 ∧
    k0_pay50 = k0_pay10 ∧
    k0_pay51 (F := Ideal) = k0_pay11 ∧
    k0_pay52 (F := Ideal) = k0_pay12 ∧
    k0_pay53 (F := Ideal) = k0_pay13 ∧
    k0_pay54 (F := Ideal) = k0_pay14 ∧
    k0_pay55 (F := Ideal) = k0_pay15 ∧
    k0_pay56 (F := Ideal) = k0_pay16 ∧
    k0_pay57 (F := Ideal) = k0_pay17 ∧
    k0_pay58 (F := Ideal) = k0_pay18 ∧
    k0_pay59 (F := Ideal) = k0_pay19 ∧
    k0_pay68 (F := Ideal) = k0_pay8 ∧
    k0_pay69 (F := Ideal) = k0_pay9 ∧
    k0_pay70 = k0_pay10 ∧
    k0_pay71 (F := Ideal) = k0_pay11 ∧
    k0_pay72 (F := Ideal) = k0_pay12 ∧
    k0_pay73 (F := Ideal) = k0_pay13 ∧
    k0_pay74 (F := Ideal) = k0_pay14 ∧
    k0_pay75 (F := Ideal) = k0_pay15 ∧
    k0_pay76 (F := Ideal) = k0_pay16 ∧
    k0_pay77 (F := Ideal) = k0_pay17 ∧
    k0_pay78 (F := Ideal) = k0_pay18 ∧
    k0_pay79 (F := Ideal) = k0_pay19 ∧
    k0_pay88 (F := Ideal) = k0_pay8 ∧
    k0_pay89 (F := Ideal) = k0_pay9 ∧
    k0_pay90 = k0_pay10 ∧
    k0_pay91 (F := Ideal) = k0_pay11 ∧
    k0_pay92 (F := Ideal) = k0_pay12 ∧
    k0_pay93 (F := Ideal) = k0_pay13 ∧
    k0_pay94 (F := Ideal) = k0_pay14 ∧
    k0_pay95 (F := Ideal) = k0_pay15 ∧
    k0_pay96 (F := Ideal) = k0_pay16 ∧
    k0_pay97 (F := Ideal) = k0_pay17 ∧
    k0_pay98 (F := Ideal) = k0_pay18 ∧
    k0_pay99 (F := Ideal) = k0_pay19 ∧
    k0_pay106 (F := Ideal) = k0_pay13 :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

section Strips
variable (P : FVec Ideal S256x512 .f32) (tl : Vec Ideal S256x128 .f32) (w0 w1 w2 w3 : Vec Ideal S1x256x128 .f32)
  (b : Vec Ideal S256x128 .f32) (h : FVec Ideal S512x1024 .bf16) (w : Vec Ideal S256x1024 .bf16)
  (x0 : FVec Ideal S1x512x1024 .f32) (x1 : FVec Ideal S1x1024 .f32)
  (a1 a2 : FVec Ideal S256x512 .f32) (a3 : IVec S256x128 1) (a4 a5 : FVec Ideal S256x128 .f32)
  (i1 i2 : IVec S256x128 32)

theorem pay6_eq : k0_pay6 x0 x1 w = k0_pay20 (k0_pay5 x0 x1) w := rfl
theorem pay7_eq : k0_pay7 x0 x1 w w3 = k0_pay27 (k0_pay5 x0 x1) w w3 := rfl
theorem pay21_eq : k0_pay21 h w = chunk (k0_pay20 h w) 0 slices_S256x512_o0_0_S256x128 := rfl
theorem pay23_eq : k0_pay23 (k0_pay22 h w) = chunk (k0_pay20 h w) 128 slices_S256x512_o0_128_S256x128 := rfl
theorem pay24_eq : k0_pay24 P = chunk P 256 slices_S256x512_o0_256_S256x128 := rfl
theorem pay25_eq : k0_pay25 P = chunk P 384 slices_S256x512_o0_384_S256x128 := rfl
theorem pay15_eq : k0_pay15 a1 a2 a3 a4 a5 w0 = stored (k0_pay14 a1 a2 a3 a4 a5 w0) 0 slices_S256x512_o0_0_S256x128 := rfl
theorem pay16_eq : k0_pay16 a1 a2 a3 a4 a5 w0 = stored (k0_pay14 a1 a2 a3 a4 a5 w0) 128 slices_S256x512_o0_128_S256x128 := rfl
theorem pay18_eq : k0_pay18 (k0_pay17 a1 a2 a3 a4 a5 w0) = stored (k0_pay14 a1 a2 a3 a4 a5 w0) 256 slices_S256x512_o0_256_S256x128 := rfl
theorem pay19_eq : k0_pay19 P = stored P 384 slices_S256x512_o0_384_S256x128 := rfl
theorem pay108_eq : k0_pay108 tl i1 a1 a2 i2 w0 = stored (k0_pay107 tl i1 a1 a2 i2 w0) 0 slices_S256x512_o0_0_S256x128 := rfl
theorem pay109_eq : k0_pay109 tl i1 a1 a2 i2 w0 = stored (k0_pay107 tl i1 a1 a2 i2 w0) 128 slices_S256x512_o0_128_S256x128 := rfl
theorem pay110_eq : k0_pay110 P = stored P 256 slices_S256x512_o0_256_S256x128 := rfl
theorem pay111_eq : k0_pay111 P = stored P 384 slices_S256x512_o0_384_S256x128 := rfl

/-- A strip of rows after its convolution and silu, as the call computes it. -/
theorem pay14_eq : k0_pay14 (k0_pay8 (k0_pay20 h w) tl (iota .tc S256x128 32 [1] iota_S256x128_d1_w32) (k0_pay27 h w w3) b w2 w1) (k0_pay9 (k0_pay20 h w))
    (k0_pay10 (iota .tc S256x128 32 [1] iota_S256x128_d1_w32)) (k0_pay11 tl) (k0_pay12 (k0_pay20 h w)) w0 =
    activated (strip (k0_pay20 h w) tl w0 w1 w2 w3 b) := rfl

/-- The last strip of rows after its convolution and silu, as the call computes it. -/
theorem pay107_eq : k0_pay107 tl (iota .tc S256x128 32 [1] iota_S256x128_d1_w32) (k0_pay103 P tl (iota .tc S256x128 32 [1] iota_S256x128_d1_w32) (k0_pay102 w3) b w2 w1)
    (k0_pay104 P) k0_pay105 w0 = activated (strip P tl w0 w1 w2 w3 b) := rfl

end Strips

end Cert.ProjSsmValue

end
-- ==== Proof.ProjSsmBlock.lean ====
/- The second part of the projection call, its blocks at the ideal values: what each grid point reads of the arguments. -/
module

public import proofs.«01_k».proof.Proof.Gen.ProjSsmIdeal.Frame.Runs
public import proofs.«01_k».proof.Proof.ProjCommon
public import Idealize.ShloMosaic.Lib.Pointwise
public import Idealize.ShloMosaic.Lib.Pipeline.ValueKit
public import Idealize.ShloMosaic.Lib.Claim
public import Idealize.ShloMosaic.Lib.StableHlo.ReadAt

@[expose] public section

set_option maxRecDepth 16384

noncomputable section

namespace Cert.ProjSsmValue

open Idealize.ShloMosaic Idealize.ShloMosaic.TcCoe Idealize.SL.Sem
open Cert.ProjSsmIdeal Cert.ProjSsmIdeal.Gen

variable (m : (ℓ : Loc nD τ sig) → Buf (Elt Ideal) ℓ)

theorem idx (t : Fin cfg0.N) : win0_0.index t = ![t.val / 4, t.val % 4, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0, 0]
    ∧ win0_8.index t = ![0, 0]
    ∧ win0_9.index t = ![0, 0, 0]
    ∧ win0_10.index t = ![0, 0] :=
  (by decide +kernel : ∀ t : Fin cfg0.N, win0_0.index t = ![t.val / 4, t.val % 4, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0, 0]
    ∧ win0_8.index t = ![0, 0]
    ∧ win0_9.index t = ![0, 0, 0]
    ∧ win0_10.index t = ![0, 0]) t

theorem idxo (t : Fin cfg0.N) : win0_11.index t = ![t.val / 4, t.val % 4, 0, 0]
    ∧ win0_12.index t = ![t.val / 4, t.val % 4, 0, 0]
    ∧ win0_13.index t = ![t.val / 4, t.val % 4, 0, 0]
    ∧ win0_14.index t = ![t.val / 4, t.val % 4, 0]
    ∧ win0_15.index t = ![t.val / 4, t.val % 4, 0]
    ∧ win0_16.index t = ![t.val / 4, t.val % 4, 0] :=
  (by decide +kernel : ∀ t : Fin cfg0.N, win0_11.index t = ![t.val / 4, t.val % 4, 0, 0]
    ∧ win0_12.index t = ![t.val / 4, t.val % 4, 0, 0]
    ∧ win0_13.index t = ![t.val / 4, t.val % 4, 0, 0]
    ∧ win0_14.index t = ![t.val / 4, t.val % 4, 0]
    ∧ win0_15.index t = ![t.val / 4, t.val % 4, 0]
    ∧ win0_16.index t = ![t.val / 4, t.val % 4, 0]) t

/-- The batch of grid point `t`. -/
def bat (t : Fin cfg0.N) : Fin 8 := ⟨t.val / 4, by have : t.val < 32 := t.isLt; omega⟩
/-- The token that row `s` of grid point `t`'s blocks holds. -/
def tok (t : Fin cfg0.N) (s : Fin 512) : Fin 2048 := ⟨t.val % 4 * 512 + s.val, by omega⟩

theorem blk0 (c : Dev nD) (t : Fin cfg0.N) (s : Fin 512) (k : Fin 1024) :
    iblk m c 0 t (ix3 0 s k) = m ((c : Thread nD τ).loc main_arg0) (ix3 (bat t) (tok t s) k) := by
  refine Eq.trans (congrArg (V m c main_arg0) (?_ : _ = ix3 (bat t) (tok t s) k)) (congrFun (V_main_arg0 m c) _)
  blk_ext [idx t, bat, tok]

theorem entry1 (c : Dev nD) (k : Fin 1024) : V m c main_v17 (ix2 0 k) = m ((c : Thread nD τ).loc main_arg1) (ix2 0 k) := by
  unfold V
  after_reads_at

theorem blk1 (c : Dev nD) (t : Fin cfg0.N) (k : Fin 1024) : iblk m c 1 t (ix2 0 k) = m ((c : Thread nD τ).loc main_arg1) (ix2 0 k) := by
  refine Eq.trans (congrArg (V m c main_v17) (?_ : _ = ix2 0 k)) (entry1 m c _)
  blk_ext [idx t]

theorem entry2 (c : Dev nD) (r k : Fin 1024) : V m c main_v22 (ix2 r k) = m ((c : Thread nD τ).loc main_arg2) (ix3 0 k ⟨1604 + r, by omega⟩) := by
  unfold V
  after_reads_at

theorem blk2 (c : Dev nD) (t : Fin cfg0.N) (r k : Fin 1024) : iblk m c 2 t (ix2 r k) = m ((c : Thread nD τ).loc main_arg2) (ix3 0 k ⟨1604 + r, by omega⟩) := by
  refine Eq.trans (congrArg (V m c main_v22) (?_ : _ = ix2 r k)) (entry2 m c _ _)
  blk_ext [idx t]

theorem entry3 (c : Dev nD) (r k : Fin 1024) : V m c main_v23 (ix2 r k) = m ((c : Thread nD τ).loc main_arg2) (ix3 0 k ⟨2628 + r, by omega⟩) := by
  unfold V
  after_reads_at

theorem blk3 (c : Dev nD) (t : Fin cfg0.N) (r k : Fin 1024) : iblk m c 3 t (ix2 r k) = m ((c : Thread nD τ).loc main_arg2) (ix3 0 k ⟨2628 + r, by omega⟩) := by
  refine Eq.trans (congrArg (V m c main_v23) (?_ : _ = ix2 r k)) (entry3 m c _ _)
  blk_ext [idx t]

theorem entry4 (c : Dev nD) (r : Fin 512) (k : Fin 1024) : V m c main_v27 (ix2 r k) = m ((c : Thread nD τ).loc main_arg2) (ix3 0 k ⟨3652 + r, by omega⟩) := by
  unfold V
  after_reads_at
  split
  · rfl
  · exact congrArg (fun j => m ((c : Thread nD τ).loc main_arg2) (ix3 0 k j)) (Fin.ext (by dsimp only <;> omega))

theorem blk4 (c : Dev nD) (t : Fin cfg0.N) (r : Fin 512) (k : Fin 1024) : iblk m c 4 t (ix2 r k) = m ((c : Thread nD τ).loc main_arg2) (ix3 0 k ⟨3652 + r, by omega⟩) := by
  refine Eq.trans (congrArg (V m c main_v27) (?_ : _ = ix2 r k)) (entry4 m c _ _)
  blk_ext [idx t]

theorem entry5 (c : Dev nD) (k : Fin 1024) (r : Fin 2048) : V m c main_v28 (ix2 k r) = m ((c : Thread nD τ).loc main_arg2) (ix3 0 k ⟨4180 + r, by omega⟩) := by
  unfold V
  after_reads_at

theorem blk5 (c : Dev nD) (t : Fin cfg0.N) (k : Fin 1024) (r : Fin 2048) : iblk m c 5 t (ix2 k r) = m ((c : Thread nD τ).loc main_arg2) (ix3 0 k ⟨4180 + r, by omega⟩) := by
  refine Eq.trans (congrArg (V m c main_v28) (?_ : _ = ix2 k r)) (entry5 m c _ _)
  blk_ext [idx t]

theorem entry6 (c : Dev nD) (k : Fin 1024) (r : Fin 512) : V m c main_v29 (ix2 k r) = m ((c : Thread nD τ).loc main_arg2) (ix3 0 k ⟨768 + r, by omega⟩) := by
  unfold V
  after_reads_at

theorem blk6 (c : Dev nD) (t : Fin cfg0.N) (k : Fin 1024) (r : Fin 512) : iblk m c 6 t (ix2 k r) = m ((c : Thread nD τ).loc main_arg2) (ix3 0 k ⟨768 + r, by omega⟩) := by
  refine Eq.trans (congrArg (V m c main_v29) (?_ : _ = ix2 k r)) (entry6 m c _ _)
  blk_ext [idx t]

theorem entry7 (c : Dev nD) (k : Fin 4) (r : Fin 1024) (l : Fin 128) : V m c main_v3 (ix3 k r l) = m ((c : Thread nD τ).loc main_arg3) (ix3 0 k ⟨r, by omega⟩) := by
  unfold V
  after_reads_at

theorem blk7 (c : Dev nD) (t : Fin cfg0.N) (k : Fin 4) (r : Fin 1024) (l : Fin 128) : iblk m c 7 t (ix3 k r l) = m ((c : Thread nD τ).loc main_arg3) (ix3 0 k ⟨r, by omega⟩) := by
  refine Eq.trans (congrArg (V m c main_v3) (?_ : _ = ix3 k r l)) (entry7 m c _ _ _)
  blk_ext [idx t]

theorem entry8 (c : Dev nD) (r : Fin 1024) (l : Fin 128) : V m c main_v7 (ix2 r l) = m ((c : Thread nD τ).loc main_arg4) (ix2 0 ⟨r, by omega⟩) := by
  unfold V
  after_reads_at

theorem blk8 (c : Dev nD) (t : Fin cfg0.N) (r : Fin 1024) (l : Fin 128) : iblk m c 8 t (ix2 r l) = m ((c : Thread nD τ).loc main_arg4) (ix2 0 ⟨r, by omega⟩) := by
  refine Eq.trans (congrArg (V m c main_v7) (?_ : _ = ix2 r l)) (entry8 m c _ _)
  blk_ext [idx t]

theorem entry9 (c : Dev nD) (k : Fin 4) (r : Fin 512) (l : Fin 128) : V m c main_v11 (ix3 k r l) = m ((c : Thread nD τ).loc main_arg3) (ix3 0 k ⟨1024 + r, by omega⟩) := by
  unfold V
  after_reads_at

theorem blk9 (c : Dev nD) (t : Fin cfg0.N) (k : Fin 4) (r : Fin 512) (l : Fin 128) : iblk m c 9 t (ix3 k r l) = m ((c : Thread nD τ).loc main_arg3) (ix3 0 k ⟨1024 + r, by omega⟩) := by
  refine Eq.trans (congrArg (V m c main_v11) (?_ : _ = ix3 k r l)) (entry9 m c _ _ _)
  blk_ext [idx t]

theorem entry10 (c : Dev nD) (r : Fin 512) (l : Fin 128) : V m c main_v15 (ix2 r l) = m ((c : Thread nD τ).loc main_arg4) (ix2 0 ⟨1024 + r, by omega⟩) := by
  unfold V
  after_reads_at

theorem blk10 (c : Dev nD) (t : Fin cfg0.N) (r : Fin 512) (l : Fin 128) : iblk m c 10 t (ix2 r l) = m ((c : Thread nD τ).loc main_arg4) (ix2 0 ⟨1024 + r, by omega⟩) := by
  refine Eq.trans (congrArg (V m c main_v15) (?_ : _ = ix2 r l)) (entry10 m c _ _)
  blk_ext [idx t]

end Cert.ProjSsmValue
-- ==== Proof.ProjSsmRead.lean ====
/- The second part of the projection call, its reference at the ideal values: `conv` is the causal convolution of four taps over
   the x, B and C columns of the in-projection, and the theorems read each result of the reference. -/
module

public import proofs.«01_k».proof.Proof.Gen.ProjSsmRefIdeal.Run
public import proofs.«01_k».proof.Proof.Gen.ProjSsmRefIdeal.Read
public import proofs.«01_k».proof.Proof.ProjCommon
public import Idealize.ShloMosaic.Lib.Pipeline.ValueKit

@[expose] public section

set_option maxRecDepth 16384

noncomputable section

namespace Cert.ProjSsmValue

open Idealize.ShloMosaic Idealize.ShloMosaic.TcCoe Idealize.SL.Sem
open Cert.ProjSsmRefIdeal Cert.ProjSsmRefIdeal.Read Cert.ProjValue

variable (x : Vec Ideal S8x2048x1024 .f32) (nw : Vec Ideal S1x1024 .f32)
  (w : Vec Ideal S1x1024x6228 .f32) (cw : Vec Ideal S1x4x1536 .f32) (cb : Vec Ideal S1x1536 .f32)

/-- Channel `c` of the convolved columns, `e` tokens before token `s`; zero before the first token. -/
def back (e : ℕ) (b : Fin 8) (s : Fin 2048) (c : Fin 1536) : EReal :=
  if e ≤ s.val then prj x nw w b ⟨s - e, by omega⟩ ⟨2628 + c, by omega⟩ else 0

/-- The causal convolution of channel `c` at token `s`. -/
def conv (b : Fin 8) (s : Fin 2048) (c : Fin 1536) : EReal :=
  back x nw w 3 b s c * cw (ix3 0 0 c) + back x nw w 2 b s c * cw (ix3 0 1 c) + back x nw w 1 b s c * cw (ix3 0 2 c)
    + back x nw w 0 b s c * cw (ix3 0 3 c) + cb (ix2 0 c)

/-- The product of a value and its logistic. -/
def silu (v : EReal) : EReal := v * Ideal.logistic v

theorem v13_apply (b : Fin 8) (s : Fin 2048) (k : Fin 1024) : val_main_v13 (F := Ideal) x nw (ix3 b s k) = hid x nw b s k := by
  pointwise [val_main_v13, val_main_v12, val_main_v11, val_main_v10, val_main_v9, val_main_v8, val_main_v7,
      val_main_v6, val_main_v5, val_main_v4, val_main_v3, val_main_v2, val_main_v1, val_main_v0]
  have e : val_main_cst (F := Ideal) (Shape.Idx.first Gen.h_S_) = 0 := Ideal.ofBits_zero_f32
  rw [e, zero_add]
  rfl

theorem v15_apply (b : Fin 8) (s : Fin 2048) (c : Fin 6228) : val_main_v15 (F := Ideal) x nw w (ix3 b s c) = prj x nw w b s c := by
  pointwise [val_main_v15, val_main_v14]
  simp only [v13_apply]
  rfl

theorem call0_zero (i : S_.Idx) : val_main_call0_v0 (F := Ideal) i = 0 := by
  pointwise [val_main_call0_v0, val_main_c]
  show ((((0#32 : BitVec 32).toInt : ℝ)) : EReal) = 0
  simp

/-- The gating columns of the scan, chunked and feature-major. -/
theorem v67_apply (b : Fin 8) (j : Fin 16) (r : Fin 1024) (l : Fin 128) : val_main_v67 (F := Ideal) x nw w (ix4 b j r l) =
    prj x nw w b ⟨j * 128 + l, by omega⟩ ⟨1604 + r, by omega⟩ := by
  pointwise [val_main_v67, val_main_v66, val_main_v23]
  exact v15_apply x nw w _ _ _

/-- The gates. -/
theorem v78_apply (b : Fin 8) (s : Fin 2048) (r : Fin 2048) : val_main_v78 (F := Ideal) x nw w (ix3 b s r) =
    prj x nw w b s ⟨4180 + r, by omega⟩ := by
  pointwise [val_main_v78, val_main_v28]
  exact v15_apply x nw w _ _ _

/-- The gating columns of the attention. -/
theorem v19_apply (b : Fin 8) (s : Fin 2048) (r : Fin 512) : val_main_v19 (F := Ideal) x nw w (ix3 b s r) =
    prj x nw w b s ⟨768 + r, by omega⟩ := by
  pointwise [val_main_v19]
  exact v15_apply x nw w _ _ _

/-- The x, B and C columns together. -/
theorem v29_apply (b : Fin 8) (s : Fin 2048) (c : Fin 1536) : val_main_v29 (F := Ideal) x nw w (ix3 b s c) =
    prj x nw w b s ⟨2628 + c, by omega⟩ := by
  pointwise [val_main_v29, val_main_v24, val_main_v25, val_main_v26]
  simp only [v15_apply]
  split
  · rfl
  · split <;> exact prj_congr x nw w rfl rfl (by dsimp only; omega)

/-- The convolved columns after their silu. -/
theorem v65_apply (b : Fin 8) (s : Fin 2048) (c : Fin 1536) : val_main_v65 (F := Ideal) x nw w cw cb (ix3 b s c) =
    silu (conv x nw w cw cb b s c) := by
  have e : val_main_v64 (F := Ideal) x nw w cw cb (ix3 b s c) = conv x nw w cw cb b s c := by
    pointwise [val_main_v64, val_main_v63, val_main_v62, val_main_v61, val_main_v60, val_main_v59, val_main_v58,
      val_main_v57, val_main_v56, val_main_v55, val_main_v54, val_main_v53, val_main_v52, val_main_v51,
      val_main_v50, val_main_v49, val_main_v48, val_main_v47, val_main_v46, val_main_v45, val_main_v44,
      val_main_v43, val_main_v42, val_main_v41, val_main_v40, val_main_v39, val_main_v38, val_main_v37,
      val_main_v36, val_main_v35, val_main_v34, val_main_v33, val_main_v32, val_main_v31, val_main_v30]
    simp only [v29_apply, call0_zero]
    have z : val_main_cst_2 (F := Ideal) ix0 = 0 := Ideal.ofBits_zero_f32
    rw [z, zero_add]
    have h3 : (3 ≤ s.val ∧ s.val - 3 < 2048) ↔ 3 ≤ s.val := by omega
    have h2 : (3 ≤ 1 + s.val ∧ 1 + s.val - 3 < 2048) ↔ 2 ≤ s.val := by omega
    have h1 : (3 ≤ 2 + s.val ∧ 2 + s.val - 3 < 2048) ↔ 1 ≤ s.val := by omega
    unfold conv
    refine congrArg (· + _) (congrArg₂ (· + ·) (congrArg₂ (· + ·) (congrArg₂ (· + ·) ?_ ?_) ?_) ?_) <;> refine congrArg (· * _) ?_ <;>
      unfold back
    · by_cases h : 3 ≤ s.val
      · rw [dif_pos (h3.2 h), if_pos h]
      · rw [dif_neg (fun g => h (h3.1 g)), if_neg h]
    · by_cases h : 2 ≤ s.val
      · rw [dif_pos (h2.2 h), if_pos h]; exact prj_congr x nw w rfl (by dsimp only; omega) rfl
      · rw [dif_neg (fun g => h (h2.1 g)), if_neg h]
    · by_cases h : 1 ≤ s.val
      · rw [dif_pos (h1.2 h), if_pos h]; exact prj_congr x nw w rfl (by dsimp only; omega) rfl
      · rw [dif_neg (fun g => h (h1.1 g)), if_neg h]
    · rw [if_pos (Nat.zero_le _)]; rfl
  have u : val_main_v65 (F := Ideal) x nw w cw cb (ix3 b s c) = silu (val_main_v64 (F := Ideal) x nw w cw cb (ix3 b s c)) := by
    pointwise [val_main_v65, val_main_call1_v5, val_main_call1_v4, val_main_call1_v3, val_main_call1_v2, val_main_call1_v1,
      val_main_call1_v0, val_main_call1_cst, val_main_call1_cst_0]
    rfl
  rw [u, e]

/-- The x columns of the scan: convolved, chunked and feature-major. -/
theorem v71_apply (b : Fin 8) (j : Fin 16) (r : Fin 1024) (l : Fin 128) : val_main_v71 (F := Ideal) x nw w cw cb (ix4 b j r l) =
    silu (conv x nw w cw cb b ⟨j * 128 + l, by omega⟩ ⟨r, by omega⟩) := by
  pointwise [val_main_v71, val_main_v70, val_main_v69, val_main_v68]
  exact v65_apply x nw w cw cb _ _ _

/-- The B and C columns of the scan: convolved, chunked and feature-major. -/
theorem v75_apply (b : Fin 8) (j : Fin 16) (r : Fin 512) (l : Fin 128) : val_main_v75 (F := Ideal) x nw w cw cb (ix4 b j r l) =
    silu (conv x nw w cw cb b ⟨j * 128 + l, by omega⟩ ⟨1024 + r, by omega⟩) := by
  pointwise [val_main_v75, val_main_v74, val_main_v73, val_main_v72]
  exact v65_apply x nw w cw cb _ _ _

/-- The B columns of the scan once more, by token. -/
theorem v77_apply (b : Fin 8) (s : Fin 2048) (r : Fin 256) : val_main_v77 (F := Ideal) x nw w cw cb (ix3 b s r) =
    silu (conv x nw w cw cb b s ⟨1024 + r, by omega⟩) := by
  pointwise [val_main_v77, val_main_v76]
  exact v65_apply x nw w cw cb _ _ _

end Cert.ProjSsmValue

end
-- ==== Proof.ProjSsmPoint.lean ====
module

public import proofs.«01_k».proof.Proof.Gen.ProjSsmIdeal.Value
public import proofs.«01_k».proof.Proof.ProjSsmStep
public import proofs.«01_k».proof.Proof.ProjSsmBlock
public import proofs.«01_k».proof.Proof.ProjSsmRead
public import Idealize.ShloMosaic.Lib.Pipeline.CanonAppend
public import Idealize.ShloMosaic.Lib.Pipeline.ReadBack

@[expose] public section

set_option maxRecDepth 16384

noncomputable section

namespace Cert.ProjSsmValue

open Idealize.ShloMosaic Idealize.ShloMosaic.TcCoe Idealize.SL.Sem
open Cert.ProjSsmIdeal Cert.ProjSsmIdeal.Gen Cert.ProjSsmIdeal.Value Cert.ProjValue

variable (m : (ℓ : Loc nD τ sig) → Buf (Elt Ideal) ℓ)

abbrev argX (c : Dev nD) : Vec Ideal S8x2048x1024 .f32 := m ((c : Thread nD τ).loc main_arg0)
abbrev argN (c : Dev nD) : Vec Ideal S1x1024 .f32 := m ((c : Thread nD τ).loc main_arg1)
abbrev argW (c : Dev nD) : Vec Ideal S1x1024x6228 .f32 := m ((c : Thread nD τ).loc main_arg2)
abbrev argC (c : Dev nD) : Vec Ideal S1x4x1536 .f32 := m ((c : Thread nD τ).loc main_arg3)
abbrev argB (c : Dev nD) : Vec Ideal S1x1536 .f32 := m ((c : Thread nD τ).loc main_arg4)

theorem hidB_blk (c : Dev nD) (t : Fin cfg0.N) (s : Fin 512) (k : Fin 1024) :
    hidB (iblk m c 0 t) (iblk m c 1 t) s k = hid (argX m c) (argN m c) (bat t) (tok t s) k := by
  unfold hidB hid
  simp only [blk0, blk1]

/-- What the call reads of a whole array through a box, at a place: the array at the place of the box. -/
theorem read_box {κ : Kind} {sp : Space} {s : Shape} {e : EltTy} (M : Memref sig κ sp s e) (h : M.IsWhole) (X : s.Idx → Elt Ideal e) (R : LoadRect s)
    (i : R.shape.Idx) (i' : s.Idx) (hi : ∀ a, R.off a + R.stride a * (i a).val = (i' a).val) :
    M.view.readAt (Elt Ideal) R (h.unread X) i = X i' :=
  (congrFun (h.read_unread X) (R.idx i)).trans (congrArg X (funext fun a => Fin.ext (hi a)))

/-- The same for 256 rows of a matrix from row `o`. -/
theorem read_rows {n p : ℕ} {κ : Kind} {sp : Space} {e : EltTy} (M : Memref sig κ sp ⟨2, ![n, p]⟩ e) (h : M.IsWhole) (X : Shape.Idx ⟨2, ![n, p]⟩ → Elt Ideal e) (o : ℕ)
    (i1 : ∀ a, (![o, 0] : Fin 2 → ℕ) a + (![256, p] : Fin 2 → ℕ) a ≤ Shape.size ⟨2, ![n, p]⟩ a)
    (i2 : ∀ a, (![0, 0] : Fin 2 → ℕ) a + (![256, p] : Fin 2 → ℕ) a ≤ Shape.size ⟨2, ![256, p]⟩ a) (h0) (r : Fin 256) (k : Fin p) :
    M.view.readAt (Elt Ideal) ((Rect.unit (s := ⟨2, ![n, p]⟩) ![o, 0] ![256, p] i1).withinL (Rect.unit (s := ⟨2, ![256, p]⟩) ![0, 0] ![256, p] i2).toLoadRect h0)
      (h.unread X) (ix2 r k) = X (ix2 ⟨o + r, by have h : o + 256 ≤ n := i1 0; omega⟩ k) :=
  read_box M h X _ _ _ fun a => by
    fin_cases a
    · show o + 0 + 1 * r.val = o + r.val
      omega
    · show 0 + 0 + 1 * k.val = k.val
      omega

/-- The same for 256 rows of one tap of a filter. -/
theorem read_taps {n : ℕ} {κ : Kind} {sp : Space} {e : EltTy} (M : Memref sig κ sp ⟨3, ![4, n, 128]⟩ e) (h : M.IsWhole) (X : Shape.Idx ⟨3, ![4, n, 128]⟩ → Elt Ideal e) (o k : ℕ)
    (i1 : ∀ a, (![0, o, 0] : Fin 3 → ℕ) a + (![4, 256, 128] : Fin 3 → ℕ) a ≤ Shape.size ⟨3, ![4, n, 128]⟩ a)
    (i2 : ∀ a, (![k, 0, 0] : Fin 3 → ℕ) a + (![1, 256, 128] : Fin 3 → ℕ) a ≤ Shape.size ⟨3, ![4, 256, 128]⟩ a) (h0) (r : Fin 256) (l : Fin 128) :
    M.view.readAt (Elt Ideal) ((Rect.unit (s := ⟨3, ![4, n, 128]⟩) ![0, o, 0] ![4, 256, 128] i1).withinL
      (Rect.unit (s := ⟨3, ![4, 256, 128]⟩) ![k, 0, 0] ![1, 256, 128] i2).toLoadRect h0) (h.unread X) (ix3 0 r l) =
      X (ix3 ⟨k, by have h : k + 1 ≤ 4 := i2 0; omega⟩ ⟨o + r, by have h : o + 256 ≤ n := i1 1; omega⟩ l) :=
  read_box M h X _ _ _ fun a => by
    fin_cases a
    · show 0 + k + 1 * 0 = k
      omega
    · show o + 0 + 1 * r.val = o + r.val
      omega
    · show 0 + 0 + 1 * l.val = l.val
      omega

/-- The same for 256 rows of what the call carries from block to block. -/
theorem ld_rows {n : ℕ} (X Y : Vec Ideal ⟨2, ![n, 128]⟩ .f32) (hX : Y = X) (o : ℕ)
    (i1 : ∀ a, (![o, 0] : Fin 2 → ℕ) a + (![256, 128] : Fin 2 → ℕ) a ≤ Shape.size ⟨2, ![n, 128]⟩ a) (r : Fin 256) (k : Fin 128) :
    View.ld Y (Rect.unit (s := ⟨2, ![n, 128]⟩) ![o, 0] ![256, 128] i1) (ix2 r k) = X (ix2 ⟨o + r, by have h : o + 256 ≤ n := i1 0; omega⟩ k) := by
  subst hX
  refine congrArg Y (funext fun a => Fin.ext ?_)
  fin_cases a
  · show o + 1 * r.val = o + r.val
    omega
  · show 0 + 1 * k.val = k.val
    omega

theorem out15 (c : Dev nD) (t : Fin cfg0.N) (s : Fin 512) (r : Fin 2048) : (outsAt0 m c t.val t.isLt).2.2.2.2.1 (ix3 0 s r) =
    prj (argX m c) (argN m c) (argW m c) (bat t) (tok t s) ⟨4180 + r, by omega⟩ := by
  have e : k0_pay1 (k0_pay112 (k0_pay5 (iblk m c 0 t) (iblk m c 1 t)) (iblk m c 5 t)) (ix3 0 s r) =
      prj (argX m c) (argN m c) (argW m c) (bat t) (tok t s) ⟨4180 + r, by omega⟩ := by
    rw [pay1_apply]
    unfold prj
    simp only [pay5_apply, hidB_blk, blk5]
  by_cases h0 : t.val % 4 = 0
  · rw [outsAt0_A m c t h0]
    dsimp only
    frame_out
    exact e
  · rw [outsAt0_B m c t h0]
    dsimp only
    frame_out
    exact e

theorem out16 (c : Dev nD) (t : Fin cfg0.N) (s : Fin 512) (r : Fin 512) : (outsAt0 m c t.val t.isLt).2.2.2.2.2.1 (ix3 0 s r) =
    prj (argX m c) (argN m c) (argW m c) (bat t) (tok t s) ⟨768 + r, by omega⟩ := by
  have e : k0_pay2 (k0_pay5 (iblk m c 0 t) (iblk m c 1 t)) (iblk m c 6 t) (ix3 0 s r) =
      prj (argX m c) (argN m c) (argW m c) (bat t) (tok t s) ⟨768 + r, by omega⟩ := by
    rw [pay2_apply]
    unfold prj
    simp only [pay5_apply, hidB_blk, blk6]
  by_cases h0 : t.val % 4 = 0
  · rw [outsAt0_A m c t h0]
    dsimp only
    frame_out
    exact e
  · rw [outsAt0_B m c t h0]
    dsimp only
    frame_out
    exact e

/-- The rows from `o` of a product, where the 256 rows of weights `w` are columns of the in-projection from `q`. -/
theorem prod_apply (c : Dev nD) (t : Fin cfg0.N) (w : Vec Ideal S256x1024 .bf16) (r : Fin 256) (s : Fin 512) (q : Fin 6228)
    (hw : ∀ k, w (ix2 r k) = argW m c (ix3 0 k q)) :
    k0_pay20 (k0_pay5 (iblk m c 0 t) (iblk m c 1 t)) w (ix2 r s) = prj (argX m c) (argN m c) (argW m c) (bat t) (tok t s) q := by
  rw [pay20_apply]
  unfold prj
  simp only [pay5_apply, hidB_blk, hw]
  exact Finset.sum_congr rfl fun k _ => mul_comm _ _

/-- A chunk of such a product, as the call stores it. -/
theorem zb_piece (c : Dev nD) (t : Fin cfg0.N) (w : Vec Ideal S256x1024 .bf16) (o : ℕ) (hs : S256x512.Slices ![0, o] S256x128) (ho : o + 128 ≤ 512)
    (x : S1x1x256x128.Idx) (s : Fin 512) (q : Fin 6228) (hl : s.val = o + (x 3).val) (hw : ∀ k, w (ix2 (x 2) k) = argW m c (ix3 0 k q)) :
    chunk (k0_pay20 (k0_pay5 (iblk m c 0 t) (iblk m c 1 t)) w) o hs x = prj (argX m c) (argN m c) (argW m c) (bat t) (tok t s) q := by
  have hx : x = ix4 0 0 (x 2) (x 3) := by idx_vars x; fin_cases x0; fin_cases x1; rfl
  have h3 : (x 3).val < 128 := (x 3).isLt
  rw [hx]
  refine (chunk_apply _ o hs ho (x 2) (x 3)).trans ?_
  rw [show (⟨o + (x 3).val, by omega⟩ : Fin 512) = s from Fin.ext hl.symm]
  exact prod_apply m c t w (x 2) s q hw

set_option maxHeartbeats 2000000 in
theorem out11 (c : Dev nD) (t : Fin cfg0.N) (y : S1x4x1024x128.Idx) : (outsAt0 m c t.val t.isLt).1 y =
    prj (argX m c) (argN m c) (argW m c) (bat t) (tok t ⟨(y 1).val * 128 + (y 3).val, by have h1 : (y 1).val < 4 := (y 1).isLt; have h3 : (y 3).val < 128 := (y 3).isLt; omega⟩)
      ⟨1604 + (y 2).val, by have h2 : (y 2).val < 1024 := (y 2).isLt; omega⟩ := by
  have hr : (y 2).val < 1024 := (y 2).isLt
  by_cases hc : t.val % 4 = 0
  on_goal 1 => rw [outsAt0_A m c t hc]
  on_goal 2 => rw [outsAt0_B m c t hc]
  all_goals
    dsimp only
    frame_out
    canon_tiles x h
    all_goals first
      | (try simp only [products_eq, chunks_eq, pay21_eq, pay23_eq, pay24_eq, pay25_eq]
         refine zb_piece m c t _ _ _ (by decide) x _ _ (by dsimp only; omega) fun k => (read_rows _ _ _ _ _ _ _ _ k).trans ((blk2 m c t _ k).trans ?_)
         exact congrArg (argW m c) (congrArg (ix3 0 k) (Fin.ext (by dsimp only; omega))))
      | (refine (congrFun (pay23_eq _ _) x).trans ?_
         refine zb_piece m c t _ _ _ (by decide) x _ _ (by dsimp only; omega) fun k => (read_rows _ _ _ _ _ _ _ _ k).trans ((blk2 m c t _ k).trans ?_)
         exact congrArg (argW m c) (congrArg (ix3 0 k) (Fin.ext (by dsimp only; omega))))
      | decide

/-- The 128 tokens before a block of tokens, at channel `ch` of the convolved columns: what the call carries from block to block. -/
def before (c : Dev nD) (t : Fin cfg0.N) (ch : Fin 1536) (l : Fin 128) : EReal :=
  if t.val % 4 = 0 then 0 else prj (argX m c) (argN m c) (argW m c) (bat t) ⟨t.val % 4 * 512 - 128 + l, by omega⟩ ⟨2628 + ch, by omega⟩

theorem before_eq (c : Dev nD) (t : Fin cfg0.N) (hc : ¬ t.val % 4 = 0) (ch : Fin 1536) (l : Fin 128) :
    prj (argX m c) (argN m c) (argW m c) (bat ⟨t.val - 1, by omega⟩) (tok ⟨t.val - 1, by omega⟩ ⟨384 + l, by omega⟩) ⟨2628 + ch, by omega⟩ = before m c t ch l := by
  unfold before
  rw [if_neg hc]
  exact prj_congr _ _ _ (Fin.ext (by show (t.val - 1) / 4 = t.val / 4; omega)) (by show (t.val - 1) % 4 * 512 + (384 + l.val) = t.val % 4 * 512 - 128 + l.val; omega) rfl

theorem behind_eq (c : Dev nD) (t : Fin cfg0.N) (ch : Fin 1536) (n : ℕ) (hn : 0 < n ∧ n < 128) (l : Fin 512) :
    behind (fun l => prj (argX m c) (argN m c) (argW m c) (bat t) (tok t l) ⟨2628 + ch, by omega⟩) (before m c t ch) n l =
      back (argX m c) (argN m c) (argW m c) n (bat t) (tok t l) ch := by
  have ht : (tok t l).val = t.val % 4 * 512 + l.val := rfl
  unfold behind back before
  by_cases h : n ≤ l.val
  · rw [dif_pos h, if_pos (by omega)]
    exact prj_congr _ _ _ rfl (by simp only [ht, tok]; omega) rfl
  · rw [dif_neg h]
    by_cases h4 : t.val % 4 = 0
    · rw [if_pos h4, if_neg (by omega)]
    · rw [if_neg h4, if_pos (by omega)]
      exact prj_congr _ _ _ rfl (by simp only [ht]; omega) rfl

theorem conv_strip (c : Dev nD) (t : Fin cfg0.N) (ch : Fin 1536) (P : FVec Ideal S256x512 .f32) (tl : Vec Ideal S256x128 .f32)
    (w0 w1 w2 w3 : Vec Ideal S1x256x128 .f32) (b : Vec Ideal S256x128 .f32) (r : Fin 256) (l : Fin 512)
    (hP : ∀ l, P (ix2 r l) = prj (argX m c) (argN m c) (argW m c) (bat t) (tok t l) ⟨2628 + ch, by omega⟩)
    (ht : ∀ l, tl (ix2 r l) = before m c t ch l)
    (h0 : ∀ l, w0 (ix3 0 r l) = argC m c (ix3 0 0 ch)) (h1 : ∀ l, w1 (ix3 0 r l) = argC m c (ix3 0 1 ch))
    (h2 : ∀ l, w2 (ix3 0 r l) = argC m c (ix3 0 2 ch)) (h3 : ∀ l, w3 (ix3 0 r l) = argC m c (ix3 0 3 ch))
    (hb : ∀ l, b (ix2 r l) = argB m c (ix2 0 ch)) :
    strip P tl w0 w1 w2 w3 b (ix2 r l) = conv (argX m c) (argN m c) (argW m c) (argC m c) (argB m c) (bat t) (tok t l) ch := by
  rw [strip_apply]
  simp only [hP, ht, h0, h1, h2, h3, hb]
  unfold convolved conv
  rw [← behind_eq m c t ch 1 (by decide) l, ← behind_eq m c t ch 2 (by decide) l, ← behind_eq m c t ch 3 (by decide) l]
  have e : back (argX m c) (argN m c) (argW m c) 0 (bat t) (tok t l) ch = prj (argX m c) (argN m c) (argW m c) (bat t) (tok t l) ⟨2628 + ch, by omega⟩ := by
    unfold back
    rw [if_pos (Nat.zero_le _)]
    rfl
  rw [e]
  dsimp only
  ac_rfl

theorem conv_piece (c : Dev nD) (t : Fin cfg0.N) (ch : Fin 1536) (P : FVec Ideal S256x512 .f32) (tl : Vec Ideal S256x128 .f32)
    (w0 w1 w2 w3 : Vec Ideal S1x256x128 .f32) (b : Vec Ideal S256x128 .f32) (o : ℕ) (hs : S256x512.Slices ![0, o] S256x128) (ho : o + 128 ≤ 512)
    (x : S1x1x256x128.Idx) (l : Fin 512) (hl : l.val = o + (x 3).val)
    (hP : ∀ l, P (ix2 (x 2) l) = prj (argX m c) (argN m c) (argW m c) (bat t) (tok t l) ⟨2628 + ch, by omega⟩)
    (ht : ∀ l, tl (ix2 (x 2) l) = before m c t ch l)
    (h0 : ∀ l, w0 (ix3 0 (x 2) l) = argC m c (ix3 0 0 ch)) (h1 : ∀ l, w1 (ix3 0 (x 2) l) = argC m c (ix3 0 1 ch))
    (h2 : ∀ l, w2 (ix3 0 (x 2) l) = argC m c (ix3 0 2 ch)) (h3 : ∀ l, w3 (ix3 0 (x 2) l) = argC m c (ix3 0 3 ch))
    (hb : ∀ l, b (ix2 (x 2) l) = argB m c (ix2 0 ch)) :
    stored (activated (strip P tl w0 w1 w2 w3 b)) o hs x = silu (conv (argX m c) (argN m c) (argW m c) (argC m c) (argB m c) (bat t) (tok t l) ch) := by
  have hx : x = ix4 0 0 (x 2) (x 3) := by idx_vars x; fin_cases x0; fin_cases x1; rfl
  have h3' : (x 3).val < 128 := (x 3).isLt
  have hl' : l = ⟨o + (x 3).val, by omega⟩ := Fin.ext hl
  rw [hx, hl']
  refine (stored_apply _ o hs ho (x 2) (x 3)).trans ((activated_apply _ (x 2) _).trans ?_)
  exact congrArg silu (conv_strip m c t ch P tl w0 w1 w2 w3 b (x 2) _ hP ht h0 h1 h2 h3 hb)

/-- What the call carries to the next block of tokens: the last 128 tokens of the block, at the columns from `base` of the in-projection. -/
def tailOf (c : Dev nD) (t : Fin cfg0.N) {n : ℕ} (base : ℕ) (hb : base + n ≤ 6228) (y : Shape.Idx ⟨2, ![n, 128]⟩) : EReal :=
  prj (argX m c) (argN m c) (argW m c) (bat t) (tok t ⟨384 + (y 1).val, by have h1 : (y 1).val < 128 := (y 1).isLt; omega⟩)
    ⟨base + (y 0).val, by have h2 : (y 0).val < n := (y 0).isLt; omega⟩

theorem tail_piece (c : Dev nD) (t : Fin cfg0.N) {n : ℕ} (base : ℕ) (hb : base + n ≤ 6228) (w : Vec Ideal S256x1024 .bf16) (o : ℕ)
    (i1 : ∀ a, (![o, 0] : Fin 2 → ℕ) a + (![256, 128] : Fin 2 → ℕ) a ≤ Shape.size ⟨2, ![n, 128]⟩ a) (x : S256x128.Idx)
    (hw : ∀ (r : Fin 256) k, w (ix2 r k) = argW m c (ix3 0 k ⟨base + (o + r), by have h : o + 256 ≤ n := i1 0; omega⟩)) :
    k0_pay13 (k0_pay20 (k0_pay5 (iblk m c 0 t) (iblk m c 1 t)) w) x =
      tailOf m c t base hb ((Rect.unit (s := ⟨2, ![n, 128]⟩) ![o, 0] ![256, 128] i1).emb x) := by
  obtain ⟨r, l, rfl⟩ : ∃ (r : Fin 256) (l : Fin 128), x = ix2 r l := ⟨x 0, x 1, eq_ix2 x⟩
  refine (pay13_apply _ r l).trans ((prod_apply m c t w r _ _ (hw r)).trans ?_)
  refine prj_congr _ _ _ rfl ?_ ?_
  · show t.val % 4 * 512 + (384 + l.val) = t.val % 4 * 512 + (384 + (0 + 1 * l.val))
    omega
  · show base + (o + r.val) = base + (o + 1 * r.val)
    omega

set_option maxHeartbeats 2000000 in
theorem tail12 (c : Dev nD) (t : Fin cfg0.N) (y : S1024x128.Idx) : (outsAt0 m c t.val t.isLt).2.2.2.2.2.2.1 y = tailOf m c t (n := 1024) 2628 (by decide) y := by
  have hr : (y 0).val < 1024 := (y 0).isLt
  have hr1 : (y 1).val < 128 := (y 1).isLt
  by_cases hc : t.val % 4 = 0
  on_goal 1 => rw [outsAt0_A m c t hc]
  on_goal 2 => rw [outsAt0_B m c t hc]
  all_goals
    dsimp only
    frame_out
    first
      | refine View.canon_append_of_piecesOf (Val := Elt Ideal) (s := S1024x128) (e := .f32) (tailOf m c t (n := 1024) 2628 (by decide)) [_] [_, _, _, _] ⟨?_, ?_, ?_, ?_, trivial⟩ y ?_
      | refine View.canon_append_of_piecesOf (Val := Elt Ideal) (s := S1024x128) (e := .f32) (tailOf m c t (n := 1024) 2628 (by decide)) [] [_, _, _, _] ⟨?_, ?_, ?_, ?_, trivial⟩ y ?_
    iterate 4
      · intro x
        refine tail_piece m c t 2628 (by decide) _ _ (by decide) x ?_
        intro r k
        exact (read_rows _ _ _ _ _ _ _ r k).trans (blk3 m c t _ k)
    simp only [List.exists_mem_cons_iff, Rect.mem_set_unit]
    simp [Fin.forall_fin_two]
    omega

set_option maxHeartbeats 2000000 in
theorem tail13 (c : Dev nD) (t : Fin cfg0.N) (y : S512x128.Idx) : (outsAt0 m c t.val t.isLt).2.2.2.2.2.2.2 y = tailOf m c t (n := 512) 3652 (by decide) y := by
  have hr : (y 0).val < 512 := (y 0).isLt
  have hr1 : (y 1).val < 128 := (y 1).isLt
  by_cases hc : t.val % 4 = 0
  on_goal 1 => rw [outsAt0_A m c t hc]
  on_goal 2 => rw [outsAt0_B m c t hc]
  all_goals
    dsimp only
    frame_out
    first
      | refine View.canon_append_of_piecesOf (Val := Elt Ideal) (s := S512x128) (e := .f32) (tailOf m c t (n := 512) 3652 (by decide)) [_] [_, _] ⟨?_, ?_, trivial⟩ y ?_
      | refine View.canon_append_of_piecesOf (Val := Elt Ideal) (s := S512x128) (e := .f32) (tailOf m c t (n := 512) 3652 (by decide)) [] [_, _] ⟨?_, ?_, trivial⟩ y ?_
    iterate 2
      · intro x
        refine tail_piece m c t 3652 (by decide) _ _ (by decide) x ?_
        intro r k
        exact (read_rows _ _ _ _ _ _ _ r k).trans (blk4 m c t _ k)
    simp only [List.exists_mem_cons_iff, Rect.mem_set_unit]
    simp [Fin.forall_fin_two]
    omega

theorem tailOf_before (c : Dev nD) (t : Fin cfg0.N) (hc : ¬ t.val % 4 = 0) {n : ℕ} (base : ℕ) (hb : base + n ≤ 6228) (ch : Fin 1536) (r : Fin n) (h : base + r.val = 2628 + ch.val) (l : Fin 128) :
    tailOf m c ⟨t.val - 1, by omega⟩ base hb (ix2 r l) = before m c t ch l :=
  (prj_congr _ _ _ rfl rfl h).trans (before_eq m c t hc ch l)

end Cert.ProjSsmValue

end
-- ==== Proof.ProjSsmConv.lean ====
module

public import proofs.«01_k».proof.Proof.ProjSsmPoint

@[expose] public section

set_option maxRecDepth 16384

noncomputable section

namespace Cert.ProjSsmValue

open Idealize.ShloMosaic Idealize.ShloMosaic.TcCoe Idealize.SL.Sem
open Cert.ProjSsmIdeal Cert.ProjSsmIdeal.Gen Cert.ProjSsmIdeal.Value Cert.ProjValue

variable (m : (ℓ : Loc nD τ sig) → Buf (Elt Ideal) ℓ)

/-! What a grid point leaves in the outputs that hold convolved columns. -/

set_option maxHeartbeats 4000000 in
theorem out12 (c : Dev nD) (t : Fin cfg0.N) (y : S1x4x1024x128.Idx) : (outsAt0 m c t.val t.isLt).2.1 y =
    silu (conv (argX m c) (argN m c) (argW m c) (argC m c) (argB m c) (bat t) (tok t ⟨(y 1).val * 128 + (y 3).val, by have h1 : (y 1).val < 4 := (y 1).isLt; have h3 : (y 3).val < 128 := (y 3).isLt; omega⟩)
      ⟨(y 2).val, by have h2 : (y 2).val < 1024 := (y 2).isLt; omega⟩) := by
  have hr : (y 2).val < 1024 := (y 2).isLt
  by_cases hc : t.val % 4 = 0
  on_goal 1 => rw [outsAt0_A m c t hc]
  on_goal 2 => rw [outsAt0_B m c t hc]
  all_goals
    dsimp only
    frame_open
    simp (disch := decide) only [↓ View.readCov_skip, ↓ View.readCov_fill, ↓ View.readCov_cons_toLoadRect]
    frame_out
    canon_tiles x h
    all_goals try decide
    all_goals
      try simp only [products_eq, strips_eq, pay6_eq, pay7_eq, pay15_eq, pay16_eq, pay18_eq, pay19_eq, pay14_eq, pay108_eq, pay109_eq, pay110_eq, pay111_eq, pay107_eq]
      refine conv_piece m c t ⟨(y 2).val, by omega⟩ _ _ _ _ _ _ _ _ _ (by decide) x _ (by dsimp only; omega)
        (fun l => prod_apply m c t _ _ _ _ fun k => (read_rows _ _ _ _ _ _ _ _ k).trans ((blk3 m c t _ k).trans (congrArg (argW m c) (congrArg (ix3 0 k) (Fin.ext (by dsimp only; omega))))))
        (fun l => ?_) (fun l => (read_taps _ _ _ _ _ _ _ _ _ l).trans ?_) (fun l => (read_taps _ _ _ _ _ _ _ _ _ l).trans ?_)
        (fun l => (read_taps _ _ _ _ _ _ _ _ _ l).trans ?_) (fun l => (read_taps _ _ _ _ _ _ _ _ _ l).trans ?_)
        (fun l => (read_rows _ _ _ _ _ _ _ _ l).trans ((blk8 m c t _ l).trans (congrArg (argB m c) (congrArg (ix2 0) (Fin.ext (by dsimp only; omega))))))
      on_goal 1 =>
        first
          | exact (ld_rows (k0_pay3 (F := Ideal)) _ rfl _ _ _ l).trans ((pay3_apply _).trans (if_pos hc).symm)
          | exact (ld_rows _ _ (read_unread_whole _ _ _) _ _ _ l).trans ((tail12 m c ⟨t.val - 1, by omega⟩ _).trans (tailOf_before m c t hc _ _ _ _ (by dsimp only; omega) l))
      all_goals exact (blk7 m c t _ _ l).trans (congrArg (argC m c) (congrArg (ix3 0 _) (Fin.ext (by dsimp only; omega))))

set_option maxHeartbeats 4000000 in
theorem out13 (c : Dev nD) (t : Fin cfg0.N) (y : S1x4x512x128.Idx) : (outsAt0 m c t.val t.isLt).2.2.1 y =
    silu (conv (argX m c) (argN m c) (argW m c) (argC m c) (argB m c) (bat t) (tok t ⟨(y 1).val * 128 + (y 3).val, by have h1 : (y 1).val < 4 := (y 1).isLt; have h3 : (y 3).val < 128 := (y 3).isLt; omega⟩)
      ⟨1024 + (y 2).val, by have h2 : (y 2).val < 512 := (y 2).isLt; omega⟩) := by
  have hr : (y 2).val < 512 := (y 2).isLt
  by_cases hc : t.val % 4 = 0
  on_goal 1 => rw [outsAt0_A m c t hc]
  on_goal 2 => rw [outsAt0_B m c t hc]
  all_goals
    dsimp only
    frame_open
    simp (disch := decide) only [↓ View.readCov_skip, ↓ View.readCov_fill, ↓ View.readCov_cons_toLoadRect]
    frame_out
    canon_tiles x h
    all_goals try decide
    all_goals
      try simp only [products_eq, strips_eq, pay6_eq, pay7_eq, pay15_eq, pay16_eq, pay18_eq, pay19_eq, pay14_eq, pay108_eq, pay109_eq, pay110_eq, pay111_eq, pay107_eq]
      refine conv_piece m c t ⟨1024 + (y 2).val, by omega⟩ _ _ _ _ _ _ _ _ _ (by decide) x _ (by dsimp only; omega)
        (fun l => prod_apply m c t _ _ _ _ fun k => (read_rows _ _ _ _ _ _ _ _ k).trans ((blk4 m c t _ k).trans (congrArg (argW m c) (congrArg (ix3 0 k) (Fin.ext (by dsimp only; omega))))))
        (fun l => ?_) (fun l => (read_taps _ _ _ _ _ _ _ _ _ l).trans ?_) (fun l => (read_taps _ _ _ _ _ _ _ _ _ l).trans ?_)
        (fun l => (read_taps _ _ _ _ _ _ _ _ _ l).trans ?_) (fun l => (read_taps _ _ _ _ _ _ _ _ _ l).trans ?_)
        (fun l => (read_rows _ _ _ _ _ _ _ _ l).trans ((blk10 m c t _ l).trans (congrArg (argB m c) (congrArg (ix2 0) (Fin.ext (by dsimp only; omega))))))
      on_goal 1 =>
        first
          | exact (ld_rows (k0_pay4 (F := Ideal)) _ rfl _ _ _ l).trans ((pay4_apply _).trans (if_pos hc).symm)
          | exact (ld_rows _ _ (read_unread_whole _ _ _) _ _ _ l).trans ((tail13 m c ⟨t.val - 1, by omega⟩ _).trans (tailOf_before m c t hc _ _ _ _ (by dsimp only; omega) l))
      all_goals exact (blk9 m c t _ _ l).trans (congrArg (argC m c) (congrArg (ix3 0 _) (Fin.ext (by dsimp only; omega))))

set_option maxHeartbeats 2000000 in
theorem out14 (c : Dev nD) (t : Fin cfg0.N) (s : Fin 512) (r : Fin 256) : (outsAt0 m c t.val t.isLt).2.2.2.1 (ix3 0 s r) =
    silu (conv (argX m c) (argN m c) (argW m c) (argC m c) (argB m c) (bat t) (tok t s) ⟨1024 + r.val, by omega⟩) := by
  by_cases hc : t.val % 4 = 0
  on_goal 1 => rw [outsAt0_A m c t hc]
  on_goal 2 => rw [outsAt0_B m c t hc]
  all_goals
    dsimp only
    frame_open
    simp (disch := decide) only [↓ View.readCov_skip, ↓ View.readCov_fill, ↓ View.readCov_cons_toLoadRect]
    frame_out
    refine (pay100_apply _ s r).trans ?_
    refine congrArg silu (conv_strip m c t ⟨1024 + r.val, by omega⟩ _ _ _ _ _ _ _ r s
      (fun l => prod_apply m c t _ _ _ _ fun k => (read_rows _ _ _ _ _ _ _ _ k).trans ((blk4 m c t _ k).trans (congrArg (argW m c) (congrArg (ix3 0 k) (Fin.ext (by dsimp only; omega))))))
      (fun l => ?_) (fun l => (read_taps _ _ _ _ _ _ _ _ _ l).trans ?_) (fun l => (read_taps _ _ _ _ _ _ _ _ _ l).trans ?_)
      (fun l => (read_taps _ _ _ _ _ _ _ _ _ l).trans ?_) (fun l => (read_taps _ _ _ _ _ _ _ _ _ l).trans ?_)
      (fun l => (read_rows _ _ _ _ _ _ _ _ l).trans ((blk10 m c t _ l).trans (congrArg (argB m c) (congrArg (ix2 0) (Fin.ext (by dsimp only; omega)))))))
    on_goal 1 =>
      first
        | exact (ld_rows (k0_pay4 (F := Ideal)) _ rfl _ _ _ l).trans ((pay4_apply _).trans (if_pos hc).symm)
        | exact (ld_rows _ _ (read_unread_whole _ _ _) _ _ _ l).trans ((tail13 m c ⟨t.val - 1, by omega⟩ _).trans (tailOf_before m c t hc _ _ _ _ (by dsimp only; omega) l))
    all_goals exact (blk9 m c t _ _ l).trans (congrArg (argC m c) (congrArg (ix3 0 _) (Fin.ext (by dsimp only; omega))))

end Cert.ProjSsmValue

end
-- ==== Proof.ProjSsmValue.lean ====
module

public import proofs.«01_k».proof.Proof.ProjSsmConv

@[expose] public section

set_option maxRecDepth 16384

noncomputable section

namespace Cert.ProjSsmValue

open Idealize.ShloMosaic Idealize.ShloMosaic.TcCoe Idealize.SL.Sem
open Cert.ProjSsmIdeal Cert.ProjSsmIdeal.Gen Cert.ProjSsmIdeal.Value Cert.ProjValue

variable (m : (ℓ : Loc nD τ sig) → Buf (Elt Ideal) ℓ)

open Cert.ProjSsmRefIdeal.Read

/-! The results of the call, each as the reference has it. -/

theorem conv_congr (c : Dev nD) {b b' : Fin 8} {s s' : Fin 2048} {ch ch' : Fin 1536} (hb : b = b') (hs : s.val = s'.val) (hc : ch.val = ch'.val) :
    conv (argX m c) (argN m c) (argW m c) (argC m c) (argB m c) b s ch = conv (argX m c) (argN m c) (argW m c) (argC m c) (argB m c) b' s' ch' := by
  obtain rfl := hb; obtain rfl := Fin.ext hs; obtain rfl := Fin.ext hc; rfl

theorem emb11 (t : Fin cfg0.N) (y : S1x4x1024x128.Idx) : ((cfg0.win 11).blk t).view.emb y = ix4 (bat t) ⟨t.val % 4 * 4 + (y 1).val, by have h1 : (y 1).val < 4 := (y 1).isLt; omega⟩ (y 2) (y 3) := by
  blk_ext [idxo t, bat, tok]

theorem result11 (c : Dev nD) : (dats m 0 c).arrAt 11 cfg0.N = val_main_v67 (F := Ideal) (argX m c) (argN m c) (argW m c) := by
  refine (dats m 0 c).arrAt_eq_of_covers 11 _ (by decide +kernel) fun t hf y => ?_
  blk_simp
  rw [after0_11]
  refine (out11 m c t y).trans (Eq.trans ?_ ((congrArg (val_main_v67 (F := Ideal) (argX m c) (argN m c) (argW m c)) (emb11 t y)).trans (v67_apply _ _ _ (bat t) _ _ _)).symm)
  exact prj_congr _ _ _ rfl (by show t.val % 4 * 512 + ((y 1).val * 128 + (y 3).val) = (t.val % 4 * 4 + (y 1).val) * 128 + (y 3).val; omega) rfl

theorem emb12 (t : Fin cfg0.N) (y : S1x4x1024x128.Idx) : ((cfg0.win 12).blk t).view.emb y = ix4 (bat t) ⟨t.val % 4 * 4 + (y 1).val, by have h1 : (y 1).val < 4 := (y 1).isLt; omega⟩ (y 2) (y 3) := by
  blk_ext [idxo t, bat, tok]

theorem result12 (c : Dev nD) : (dats m 0 c).arrAt 12 cfg0.N = val_main_v71 (F := Ideal) (argX m c) (argN m c) (argW m c) (argC m c) (argB m c) := by
  refine (dats m 0 c).arrAt_eq_of_covers 12 _ (by decide +kernel) fun t hf y => ?_
  blk_simp
  rw [after0_12]
  refine (out12 m c t y).trans (Eq.trans ?_ ((congrArg (val_main_v71 (F := Ideal) (argX m c) (argN m c) (argW m c) (argC m c) (argB m c)) (emb12 t y)).trans (v71_apply _ _ _ _ _ (bat t) _ _ _)).symm)
  exact congrArg silu (conv_congr m c rfl (by show t.val % 4 * 512 + ((y 1).val * 128 + (y 3).val) = (t.val % 4 * 4 + (y 1).val) * 128 + (y 3).val; omega) rfl)

theorem emb13 (t : Fin cfg0.N) (y : S1x4x512x128.Idx) : ((cfg0.win 13).blk t).view.emb y = ix4 (bat t) ⟨t.val % 4 * 4 + (y 1).val, by have h1 : (y 1).val < 4 := (y 1).isLt; omega⟩ (y 2) (y 3) := by
  blk_ext [idxo t, bat, tok]

theorem result13 (c : Dev nD) : (dats m 0 c).arrAt 13 cfg0.N = val_main_v75 (F := Ideal) (argX m c) (argN m c) (argW m c) (argC m c) (argB m c) := by
  refine (dats m 0 c).arrAt_eq_of_covers 13 _ (by decide +kernel) fun t hf y => ?_
  blk_simp
  rw [after0_13]
  refine (out13 m c t y).trans (Eq.trans ?_ ((congrArg (val_main_v75 (F := Ideal) (argX m c) (argN m c) (argW m c) (argC m c) (argB m c)) (emb13 t y)).trans (v75_apply _ _ _ _ _ (bat t) _ _ _)).symm)
  exact congrArg silu (conv_congr m c rfl (by show t.val % 4 * 512 + ((y 1).val * 128 + (y 3).val) = (t.val % 4 * 4 + (y 1).val) * 128 + (y 3).val; omega) rfl)

theorem emb14 (t : Fin cfg0.N) (s : Fin 512) (r : Fin 256) : ((cfg0.win 14).blk t).view.emb (ix3 0 s r) = ix3 (bat t) (tok t s) r := by
  blk_ext [idxo t, bat, tok]

theorem result14 (c : Dev nD) : (dats m 0 c).arrAt 14 cfg0.N = val_main_v77 (F := Ideal) (argX m c) (argN m c) (argW m c) (argC m c) (argB m c) := by
  refine (dats m 0 c).arrAt_eq_of_covers 14 _ (by decide +kernel) fun t hf y => ?_
  blk_simp
  rw [after0_14]
  obtain ⟨s, r, hy⟩ : ∃ (s : Fin 512) (r : Fin 256), y = ix3 0 s r := ⟨y 1, y 2, by idx_vars y; fin_cases y0; rfl⟩
  subst hy
  exact (out14 m c t s r).trans ((congrArg (val_main_v77 (F := Ideal) (argX m c) (argN m c) (argW m c) (argC m c) (argB m c)) (emb14 t s r)).trans (v77_apply _ _ _ _ _ (bat t) (tok t s) r)).symm

theorem emb15 (t : Fin cfg0.N) (s : Fin 512) (r : Fin 2048) : ((cfg0.win 15).blk t).view.emb (ix3 0 s r) = ix3 (bat t) (tok t s) r := by
  blk_ext [idxo t, bat, tok]

theorem result15 (c : Dev nD) : (dats m 0 c).arrAt 15 cfg0.N = val_main_v78 (F := Ideal) (argX m c) (argN m c) (argW m c) := by
  refine (dats m 0 c).arrAt_eq_of_covers 15 _ (by decide +kernel) fun t hf y => ?_
  blk_simp
  rw [after0_15]
  obtain ⟨s, r, hy⟩ : ∃ (s : Fin 512) (r : Fin 2048), y = ix3 0 s r := ⟨y 1, y 2, by idx_vars y; fin_cases y0; rfl⟩
  subst hy
  exact (out15 m c t s r).trans ((congrArg (val_main_v78 (F := Ideal) (argX m c) (argN m c) (argW m c)) (emb15 t s r)).trans (v78_apply _ _ _ (bat t) (tok t s) r)).symm

theorem emb16 (t : Fin cfg0.N) (s : Fin 512) (r : Fin 512) : ((cfg0.win 16).blk t).view.emb (ix3 0 s r) = ix3 (bat t) (tok t s) r := by
  blk_ext [idxo t, bat, tok]

theorem result16 (c : Dev nD) : (dats m 0 c).arrAt 16 cfg0.N = val_main_v19 (F := Ideal) (argX m c) (argN m c) (argW m c) := by
  refine (dats m 0 c).arrAt_eq_of_covers 16 _ (by decide +kernel) fun t hf y => ?_
  blk_simp
  rw [after0_16]
  obtain ⟨s, r, hy⟩ : ∃ (s : Fin 512) (r : Fin 512), y = ix3 0 s r := ⟨y 1, y 2, by idx_vars y; fin_cases y0; rfl⟩
  subst hy
  exact (out16 m c t s r).trans ((congrArg (val_main_v19 (F := Ideal) (argX m c) (argN m c) (argW m c)) (emb16 t s r)).trans (v19_apply _ _ _ (bat t) (tok t s) r)).symm

end Cert.ProjSsmValue

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Merge.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.ProjAttn.Frame
public import proofs.«01_k».proof.Proof.Gen.ProjSsm.Frame
public import proofs.«01_k».proof.Proof.Gen.ProjAttnIdeal.Value
public import proofs.«01_k».proof.Proof.Gen.ProjSsmIdeal.Value
public import proofs.«01_k».proof.Proof.Gen.ProjAttnRefIdeal.Run
public import proofs.«01_k».proof.Proof.Gen.ProjSsmRefIdeal.Run
public import proofs.«01_k».proof.Proof.Gen.ProjAttnRefIdeal.Read
public import proofs.«01_k».proof.Proof.Gen.ProjSsmRefIdeal.Read
public import proofs.«01_k».proof.Proof.MergeValue
public import proofs.«01_k».proof.Proof.ProjAttnValue
public import proofs.«01_k».proof.Proof.ProjSsmValue
public import Idealize.ShloMosaic.Adequacy
public import Idealize.ShloMosaic.Init
public import Idealize.ShloMosaic.Lib.Quiescent

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem quiescent_MergeRefIdeal : quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

theorem quiescent_ProjAttnRefIdeal : quiescent_ProjAttnRefIdeal := fun m ρ _ =>
  (θ_run Cert.ProjAttnRefIdeal.defs _ _).mono (fun r h => ⟨fun c => (h c).2.2.2.2.2.2.2, sem_eq_zero_of_no_sems (by decide) r.2⟩)
    (Cert.ProjAttnRefIdeal.Value.run (F := Ideal) m ρ)

theorem quiescent_ProjSsmRefIdeal : quiescent_ProjSsmRefIdeal := fun m ρ _ =>
  (θ_run Cert.ProjSsmRefIdeal.defs _ _).mono (fun r h => ⟨fun c => (h c).2.2.2.2.2.2, sem_eq_zero_of_no_sems (by decide) r.2⟩)
    (Cert.ProjSsmRefIdeal.Value.run (F := Ideal) m ρ)

theorem algebraic_MergeIdeal_MergeRefIdeal : algebraic_MergeIdeal_MergeRefIdeal := by
  intro m ρ m' ρ' _ hagree
  refine ⟨_, Cert.MergeIdeal.Value.run_blocks (F := Ideal) m ρ, ?_⟩
  refine (θ_run Cert.MergeRefIdeal.defs _ _).mono (fun _ h c => ⟨?_, (h c).2⟩) (Cert.MergeRefIdeal.Value.run (F := Ideal) m' ρ')
  obtain ⟨h0, h1, h2, h3, h4, h5, h6, h7, h8⟩ := hagree c
  rw [(h c).1, Cert.MergeRefIdeal.Read.val_main_v39_eq, h0, h1, h2, h3, h4, h5, h6, h7, h8]
  exact ((Cert.MergeValue.final m c).trans (Cert.MergeValue.algebraic m c)).symm

theorem algebraic_ProjAttnIdeal_ProjAttnRefIdeal : algebraic_ProjAttnIdeal_ProjAttnRefIdeal := by
  intro m ρ m' ρ' _ hagree
  refine ⟨_, _, _, _, _, _, _, Cert.ProjAttnIdeal.Value.run_blocks (F := Ideal) m ρ, ?_⟩
  refine (θ_run Cert.ProjAttnRefIdeal.defs _ _).mono (fun _ h c => ?_) (Cert.ProjAttnRefIdeal.Value.run (F := Ideal) m' ρ')
  obtain ⟨h0, h1, h2, h3⟩ := hagree c
  obtain ⟨r0, r1, r2, r3, r4, r5, r6, rest⟩ := h c
  refine ⟨r0.trans ?_, r1.trans ?_, r2.trans ?_, r3.trans ?_, r4.trans ?_, r5.trans ?_, r6.trans ?_, rest⟩
  · rw [Cert.ProjAttnRefIdeal.Read.val_main_v116_eq, h0, h1, h2, h3]
    exact (Cert.ProjAttnValue.result5 m c).symm
  · rw [Cert.ProjAttnRefIdeal.Read.val_main_v121_eq, h0, h1, h2, h3]
    exact (Cert.ProjAttnValue.result6 m c).symm
  · rw [Cert.ProjAttnRefIdeal.Read.val_main_v125_eq, h0, h2, h3]
    exact (Cert.ProjAttnValue.result7 m c).symm
  · rw [Cert.ProjAttnRefIdeal.Read.val_main_v126_eq, h0, h2, h3]
    exact (Cert.ProjAttnValue.result8 m c).symm
  · rw [Cert.ProjAttnRefIdeal.Read.val_main_v130_eq, h0, h2, h3]
    exact (Cert.ProjAttnValue.result9 m c).symm
  · rw [Cert.ProjAttnRefIdeal.Read.val_main_v132_eq, h0, h1, h2, h3]
    exact (Cert.ProjAttnValue.result10 m c).symm
  · rw [Cert.ProjAttnRefIdeal.Read.val_main_v133_eq, h0, h1, h2, h3]
    exact (Cert.ProjAttnValue.result11 m c).symm

theorem algebraic_ProjSsmIdeal_ProjSsmRefIdeal : algebraic_ProjSsmIdeal_ProjSsmRefIdeal := by
  intro m ρ m' ρ' _ hagree
  refine ⟨_, _, _, _, _, _, Cert.ProjSsmIdeal.Value.run_blocks (F := Ideal) m ρ, ?_⟩
  refine (θ_run Cert.ProjSsmRefIdeal.defs _ _).mono (fun _ h c => ?_) (Cert.ProjSsmRefIdeal.Value.run (F := Ideal) m' ρ')
  obtain ⟨h0, h1, h2, h3, h4⟩ := hagree c
  obtain ⟨r0, r1, r2, r3, r4, r5, rest⟩ := h c
  refine ⟨r0.trans ?_, r1.trans ?_, r2.trans ?_, r3.trans ?_, r4.trans ?_, r5.trans ?_, rest⟩
  · rw [Cert.ProjSsmRefIdeal.Read.val_main_v67_eq, h0, h1, h2]
    exact (Cert.ProjSsmValue.result11 m c).symm
  · rw [Cert.ProjSsmRefIdeal.Read.val_main_v71_eq, h0, h1, h2, h3, h4]
    exact (Cert.ProjSsmValue.result12 m c).symm
  · rw [Cert.ProjSsmRefIdeal.Read.val_main_v75_eq, h0, h1, h2, h3, h4]
    exact (Cert.ProjSsmValue.result13 m c).symm
  · rw [Cert.ProjSsmRefIdeal.Read.val_main_v77_eq, h0, h1, h2, h3, h4]
    exact (Cert.ProjSsmValue.result14 m c).symm
  · rw [Cert.ProjSsmRefIdeal.Read.val_main_v78_eq, h0, h1, h2]
    exact (Cert.ProjSsmValue.result15 m c).symm
  · rw [Cert.ProjSsmRefIdeal.Read.val_main_v19_eq, h0, h1, h2]
    exact (Cert.ProjSsmValue.result16 m c).symm

theorem claim : Cert.Claim :=
  ⟨Cert.Kernel.Gen.facts, Cert.KernelIdeal.Gen.facts, Cert.ReferenceIdeal.Gen.facts, Cert.Merge.Gen.facts,
    Cert.MergeIdeal.Gen.facts, Cert.MergeRefIdeal.Gen.facts, Cert.ProjAttn.Gen.facts, Cert.ProjAttnIdeal.Gen.facts,
    Cert.ProjAttnRefIdeal.Gen.facts, Cert.ProjSsm.Gen.facts, Cert.ProjSsmIdeal.Gen.facts, Cert.ProjSsmRefIdeal.Gen.facts,
    fun m ρ _ => Cert.Kernel.Gen.frame m ρ, fun m ρ _ => Cert.KernelIdeal.Gen.frame m ρ, quiescent_ReferenceIdeal,
    fun m ρ _ => Cert.Merge.Gen.frame m ρ, fun m ρ _ => Cert.MergeIdeal.Gen.frame m ρ, quiescent_MergeRefIdeal,
    fun m ρ _ => Cert.ProjAttn.Gen.frame m ρ, fun m ρ _ => Cert.ProjAttnIdeal.Gen.frame m ρ, quiescent_ProjAttnRefIdeal,
    fun m ρ _ => Cert.ProjSsm.Gen.frame m ρ, fun m ρ _ => Cert.ProjSsmIdeal.Gen.frame m ρ, quiescent_ProjSsmRefIdeal,
    (trivial : preserves_Kernel_KernelIdeal),
    (trivial : preserves_Merge_MergeIdeal), algebraic_MergeIdeal_MergeRefIdeal,
    (trivial : preserves_ProjAttn_ProjAttnIdeal), algebraic_ProjAttnIdeal_ProjAttnRefIdeal,
    (trivial : preserves_ProjSsm_ProjSsmIdeal), algebraic_ProjSsmIdeal_ProjSsmRefIdeal⟩

end Cert.Proof

end
